-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16384x28x2x128 : Shape := ⟨5, ![1, 16384, 28, 2, 128]⟩
abbrev S1x16384x28x2 : Shape := ⟨4, ![1, 16384, 28, 2]⟩
abbrev S1x16384x28x256 : Shape := ⟨4, ![1, 16384, 28, 256]⟩
abbrev S28x256 : Shape := ⟨2, ![28, 256]⟩
abbrev S128 : Shape := ⟨1, ![128]⟩
abbrev S256 : Shape := ⟨1, ![256]⟩
abbrev S_ : Shape := ⟨0, ![]⟩
abbrev S1x1 : Shape := ⟨2, ![1, 1]⟩
abbrev S16384x28x2x128 : Shape := ⟨4, ![16384, 28, 2, 128]⟩
abbrev S28x2x16384x128 : Shape := ⟨4, ![28, 2, 16384, 128]⟩
abbrev S16384x28x256 : Shape := ⟨3, ![16384, 28, 256]⟩
abbrev S28x16384x256 : Shape := ⟨3, ![28, 16384, 256]⟩
abbrev S16384x28x2 : Shape := ⟨3, ![16384, 28, 2]⟩
abbrev S28x2x16384 : Shape := ⟨3, ![28, 2, 16384]⟩
abbrev S28x2x64x256 : Shape := ⟨4, ![28, 2, 64, 256]⟩
abbrev S28x1x256 : Shape := ⟨3, ![28, 1, 256]⟩
abbrev S1x256 : Shape := ⟨2, ![1, 256]⟩
abbrev S16384x7168 : Shape := ⟨2, ![16384, 7168]⟩
abbrev S1x2x256x128 : Shape := ⟨4, ![1, 2, 256, 128]⟩
abbrev S1x2x256 : Shape := ⟨3, ![1, 2, 256]⟩
abbrev S1x2x16384x128 : Shape := ⟨4, ![1, 2, 16384, 128]⟩
abbrev S1x2x64x256 : Shape := ⟨4, ![1, 2, 64, 256]⟩
abbrev S1x16384x256 : Shape := ⟨3, ![1, 16384, 256]⟩
abbrev S1x1x256 : Shape := ⟨3, ![1, 1, 256]⟩
abbrev S256x256 : Shape := ⟨2, ![256, 256]⟩
abbrev S64x2x256x256 : Shape := ⟨4, ![64, 2, 256, 256]⟩
abbrev S2x256x128 : Shape := ⟨3, ![2, 256, 128]⟩
abbrev S2x256 : Shape := ⟨2, ![2, 256]⟩
abbrev S256x2 : Shape := ⟨2, ![256, 2]⟩
abbrev S256x1 : Shape := ⟨2, ![256, 1]⟩
abbrev S256x128 : Shape := ⟨2, ![256, 128]⟩
abbrev S1x256x128 : Shape := ⟨3, ![1, 256, 128]⟩
abbrev S1x1x256x128 : Shape := ⟨4, ![1, 1, 256, 128]⟩
abbrev S1x1x1x256 : Shape := ⟨4, ![1, 1, 1, 256]⟩
abbrev S1x1x256x256 : Shape := ⟨4, ![1, 1, 256, 256]⟩
abbrev S1x256x256 : Shape := ⟨3, ![1, 256, 256]⟩
abbrev S1x16384x7168 : Shape := ⟨3, ![1, 16384, 7168]⟩

abbrev nBuf : Space → Nat
  | .hbm => 41
  | .vmem => 20
  | .smem => 1
  | _ => 0

abbrev bufTy : (tb : Table) → Fin (tcTables nBuf tb) → BufTy
  | .hbm, ⟨0, _⟩ => ⟨S1x16384x28x2x128, .fp8e4m3⟩
  | .hbm, ⟨1, _⟩ => ⟨S1x16384x28x2, .f32⟩
  | .hbm, ⟨2, _⟩ => ⟨S1x16384x28x2x128, .fp8e4m3⟩
  | .hbm, ⟨3, _⟩ => ⟨S1x16384x28x2, .f32⟩
  | .hbm, ⟨4, _⟩ => ⟨S1x16384x28x256, .fp8e4m3⟩
  | .hbm, ⟨5, _⟩ => ⟨S28x256, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S256, .f32⟩
  | .hbm, ⟨11, _⟩ => ⟨S128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x1, .f32⟩
  | .hbm, ⟨23, _⟩ => ⟨S16384x28x2x128, .fp8e4m3⟩
  | .hbm, ⟨24, _⟩ => ⟨S28x2x16384x128, .fp8e4m3⟩
  | .hbm, ⟨25, _⟩ => ⟨S16384x28x2x128, .fp8e4m3⟩
  | .hbm, ⟨26, _⟩ => ⟨S28x2x16384x128, .fp8e4m3⟩
  | .hbm, ⟨27, _⟩ => ⟨S16384x28x256, .fp8e4m3⟩
  | .hbm, ⟨28, _⟩ => ⟨S28x16384x256, .fp8e4m3⟩
  | .hbm, ⟨29, _⟩ => ⟨S16384x28x2, .f32⟩
  | .hbm, ⟨30, _⟩ => ⟨S28x2x16384, .f32⟩
  | .hbm, ⟨31, _⟩ => ⟨S16384x28x2, .f32⟩
  | .hbm, ⟨32, _⟩ => ⟨S28x2x16384, .f32⟩
  | .hbm, ⟨33, _⟩ => ⟨S_, .f32⟩
  | .hbm, ⟨34, _⟩ => ⟨S28x2x16384, .f32⟩
  | .hbm, ⟨35, _⟩ => ⟨S28x2x16384, .f32⟩
  | .hbm, ⟨36, _⟩ => ⟨S28x2x64x256, .f32⟩
  | .hbm, ⟨37, _⟩ => ⟨S28x1x256, .f32⟩
  | .hbm, ⟨38, _⟩ => ⟨S1x256, .f32⟩
  | .hbm, ⟨39, _⟩ => ⟨S16384x7168, .bf16⟩
  | .hbm, ⟨40, _⟩ => ⟨S1x16384x7168, .bf16⟩
  | .local _ .vmem, ⟨0, _⟩ => ⟨S1x2x256x128, .fp8e4m3⟩
  | .local _ .vmem, ⟨1, _⟩ => ⟨S1x2x256x128, .fp8e4m3⟩
  | .local _ .vmem, ⟨2, _⟩ => ⟨S1x2x256, .f32⟩
  | .local _ .vmem, ⟨3, _⟩ => ⟨S1x2x256, .f32⟩
  | .local _ .vmem, ⟨4, _⟩ => ⟨S1x2x16384x128, .fp8e4m3⟩
  | .local _ .vmem, ⟨5, _⟩ => ⟨S1x2x16384x128, .fp8e4m3⟩
  | .local _ .vmem, ⟨6, _⟩ => ⟨S1x2x64x256, .f32⟩
  | .local _ .vmem, ⟨7, _⟩ => ⟨S1x2x64x256, .f32⟩
  | .local _ .vmem, ⟨8, _⟩ => ⟨S1x16384x256, .fp8e4m3⟩
  | .local _ .vmem, ⟨9, _⟩ => ⟨S1x16384x256, .fp8e4m3⟩
  | .local _ .vmem, ⟨10, _⟩ => ⟨S1x1x256, .f32⟩
  | .local _ .vmem, ⟨11, _⟩ => ⟨S1x1x256, .f32⟩
  | .local _ .vmem, ⟨12, _⟩ => ⟨S1x256, .f32⟩
  | .local _ .vmem, ⟨13, _⟩ => ⟨S256x256, .bf16⟩
  | .local _ .vmem, ⟨14, _⟩ => ⟨S256x256, .bf16⟩
  | .local _ .vmem, ⟨15, _⟩ => ⟨S64x2x256x256, .f32⟩
  | .local _ .vmem, ⟨16, _⟩ => ⟨S2x256x128, .f32⟩
  | .local _ .vmem, ⟨17, _⟩ => ⟨S2x256x128, .f32⟩
  | .local _ .vmem, ⟨18, _⟩ => ⟨S2x256x128, .f32⟩
  | .local _ .vmem, ⟨19, _⟩ => ⟨S256x256, .f32⟩
  | .local _ .smem, ⟨0, _⟩ => ⟨S1x1, .f32⟩
  | _, _ => ⟨S1x16384x28x2x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![28, 64], ![false, false]⟩

@[reducible] def k0_t1_loop (i : grid0.Coords) : Scf.Loop 32 :=
  let c0_i32_17 : BitVec 32 := 0#32
  let arg1 : BitVec 32 := BitVec.ofNat 32 (i 1).val
  let v28 : BitVec 32 := Scalar.subi arg1 c0_i32_17
  let c1_i32_18 : BitVec 32 := 1#32
  let v30 : BitVec 32 := Scalar.divsi v28 c1_i32_18
  let v31 : BitVec 32 := Scalar.muli v30 c1_i32_18
  let v32 : BitVec 32 := Scalar.addi c0_i32_17 v31
  let c1_i32_19 : BitVec 32 := 1#32
  ⟨c0_i32_17, v32, c1_i32_19⟩
def k0_mult1 (i : grid0.Coords) (k0_t1 : Fin (k0_t1_loop i).trips) : BitVec 32 :=
  let c0_i32_17 : BitVec 32 := 0#32
  let c1_i32_19 : BitVec 32 := 1#32
  let arg16 : BitVec 32 := Scf.iv c0_i32_17 c1_i32_19 k0_t1
  let c256_i32_179 : BitVec 32 := 256#32
  let v257 : BitVec 32 := Scalar.muli arg16 c256_i32_179
  v257
def k0_off1 (i : grid0.Coords) (k0_t1 : Fin (k0_t1_loop i).trips) : Fin 4 → Nat :=
  let c0_180 : Index := 0#32
  let c0_181 : Index := 0#32
  let c0_i32_17 : BitVec 32 := 0#32
  let c1_i32_19 : BitVec 32 := 1#32
  let arg16 : BitVec 32 := Scf.iv c0_i32_17 c1_i32_19 k0_t1
  let c256_i32_179 : BitVec 32 := 256#32
  let v257 : BitVec 32 := Scalar.muli arg16 c256_i32_179
  let v258 : BitVec 32 := v257
  let v259 : Index := Scalar.indexCast v258
  let c0_182 : Index := 0#32
  ![0, 0, v259.toNat, 0]
def k0_off2 (i : grid0.Coords) (k0_t1 : Fin (k0_t1_loop i).trips) : Fin 4 → Nat :=
  let c0_184 : Index := 0#32
  let c0_185 : Index := 0#32
  let c0_i32_17 : BitVec 32 := 0#32
  let c1_i32_19 : BitVec 32 := 1#32
  let arg16 : BitVec 32 := Scf.iv c0_i32_17 c1_i32_19 k0_t1
  let v263 : Index := Scalar.indexCast arg16
  let c0_186 : Index := 0#32
  ![0, 0, v263.toNat, 0]
def k0_mult2 (i : grid0.Coords) (k0_t1 : Fin (k0_t1_loop i).trips) : BitVec 32 :=
  let c0_i32_17 : BitVec 32 := 0#32
  let c1_i32_19 : BitVec 32 := 1#32
  let arg16 : BitVec 32 := Scf.iv c0_i32_17 c1_i32_19 k0_t1
  let c256_i32_201 : BitVec 32 := 256#32
  let v285 : BitVec 32 := Scalar.muli arg16 c256_i32_201
  v285
def k0_off3 (i : grid0.Coords) (k0_t1 : Fin (k0_t1_loop i).trips) : Fin 4 → Nat :=
  let c0_202 : Index := 0#32
  let c1_203 : Index := 1#32
  let c0_i32_17 : BitVec 32 := 0#32
  let c1_i32_19 : BitVec 32 := 1#32
  let arg16 : BitVec 32 := Scf.iv c0_i32_17 c1_i32_19 k0_t1
  let c256_i32_201 : BitVec 32 := 256#32
  let v285 : BitVec 32 := Scalar.muli arg16 c256_i32_201
  let v286 : BitVec 32 := v285
  let v287 : Index := Scalar.indexCast v286
  let c0_204 : Index := 0#32
  ![0, 1, v287.toNat, 0]
def k0_off4 (i : grid0.Coords) (k0_t1 : Fin (k0_t1_loop i).trips) : Fin 4 → Nat :=
  let c0_206 : Index := 0#32
  let c1_207 : Index := 1#32
  let c0_i32_17 : BitVec 32 := 0#32
  let c1_i32_19 : BitVec 32 := 1#32
  let arg16 : BitVec 32 := Scf.iv c0_i32_17 c1_i32_19 k0_t1
  let v291 : Index := Scalar.indexCast arg16
  let c0_208 : Index := 0#32
  ![0, 1, v291.toNat, 0]
@[reducible] def k0_t2_loop (i : grid0.Coords) : Scf.Loop 32 :=
  let c0_i32_17 : BitVec 32 := 0#32
  let arg1 : BitVec 32 := BitVec.ofNat 32 (i 1).val
  let v28 : BitVec 32 := Scalar.subi arg1 c0_i32_17
  let c1_i32_18 : BitVec 32 := 1#32
  let v30 : BitVec 32 := Scalar.divsi v28 c1_i32_18
  let v31 : BitVec 32 := Scalar.muli v30 c1_i32_18
  let v32 : BitVec 32 := Scalar.addi c0_i32_17 v31
  let v29 : BitVec 32 := Scalar.addi c0_i32_17 v28
  let c1_i32_20 : BitVec 32 := 1#32
  ⟨v32, v29, c1_i32_20⟩
def k0_mult3 (i : grid0.Coords) (k0_t2 : Fin (k0_t2_loop i).trips) : BitVec 32 :=
  let c0_i32_17 : BitVec 32 := 0#32
  let arg1 : BitVec 32 := BitVec.ofNat 32 (i 1).val
  let v28 : BitVec 32 := Scalar.subi arg1 c0_i32_17
  let c1_i32_18 : BitVec 32 := 1#32
  let v30 : BitVec 32 := Scalar.divsi v28 c1_i32_18
  let v31 : BitVec 32 := Scalar.muli v30 c1_i32_18
  let v32 : BitVec 32 := Scalar.addi c0_i32_17 v31
  let c1_i32_20 : BitVec 32 := 1#32
  let arg16 : BitVec 32 := Scf.iv v32 c1_i32_20 k0_t2
  let c256_i32_179 : BitVec 32 := 256#32
  let v257 : BitVec 32 := Scalar.muli arg16 c256_i32_179
  v257
def k0_off5 (i : grid0.Coords) (k0_t2 : Fin (k0_t2_loop i).trips) : Fin 4 → Nat :=
  let c0_180 : Index := 0#32
  let c0_181 : Index := 0#32
  let c0_i32_17 : BitVec 32 := 0#32
  let arg1 : BitVec 32 := BitVec.ofNat 32 (i 1).val
  let v28 : BitVec 32 := Scalar.subi arg1 c0_i32_17
  let c1_i32_18 : BitVec 32 := 1#32
  let v30 : BitVec 32 := Scalar.divsi v28 c1_i32_18
  let v31 : BitVec 32 := Scalar.muli v30 c1_i32_18
  let v32 : BitVec 32 := Scalar.addi c0_i32_17 v31
  let c1_i32_20 : BitVec 32 := 1#32
  let arg16 : BitVec 32 := Scf.iv v32 c1_i32_20 k0_t2
  let c256_i32_179 : BitVec 32 := 256#32
  let v257 : BitVec 32 := Scalar.muli arg16 c256_i32_179
  let v258 : BitVec 32 := v257
  let v259 : Index := Scalar.indexCast v258
  let c0_182 : Index := 0#32
  ![0, 0, v259.toNat, 0]
def k0_off6 (i : grid0.Coords) (k0_t2 : Fin (k0_t2_loop i).trips) : Fin 4 → Nat :=
  let c0_184 : Index := 0#32
  let c0_185 : Index := 0#32
  let c0_i32_17 : BitVec 32 := 0#32
  let arg1 : BitVec 32 := BitVec.ofNat 32 (i 1).val
  let v28 : BitVec 32 := Scalar.subi arg1 c0_i32_17
  let c1_i32_18 : BitVec 32 := 1#32
  let v30 : BitVec 32 := Scalar.divsi v28 c1_i32_18
  let v31 : BitVec 32 := Scalar.muli v30 c1_i32_18
  let v32 : BitVec 32 := Scalar.addi c0_i32_17 v31
  let c1_i32_20 : BitVec 32 := 1#32
  let arg16 : BitVec 32 := Scf.iv v32 c1_i32_20 k0_t2
  let v263 : Index := Scalar.indexCast arg16
  let c0_186 : Index := 0#32
  ![0, 0, v263.toNat, 0]
def k0_mult4 (i : grid0.Coords) (k0_t2 : Fin (k0_t2_loop i).trips) : BitVec 32 :=
  let c0_i32_17 : BitVec 32 := 0#32
  let arg1 : BitVec 32 := BitVec.ofNat 32 (i 1).val
  let v28 : BitVec 32 := Scalar.subi arg1 c0_i32_17
  let c1_i32_18 : BitVec 32 := 1#32
  let v30 : BitVec 32 := Scalar.divsi v28 c1_i32_18
  let v31 : BitVec 32 := Scalar.muli v30 c1_i32_18
  let v32 : BitVec 32 := Scalar.addi c0_i32_17 v31
  let c1_i32_20 : BitVec 32 := 1#32
  let arg16 : BitVec 32 := Scf.iv v32 c1_i32_20 k0_t2
  let c256_i32_201 : BitVec 32 := 256#32
  let v285 : BitVec 32 := Scalar.muli arg16 c256_i32_201
  v285
def k0_off7 (i : grid0.Coords) (k0_t2 : Fin (k0_t2_loop i).trips) : Fin 4 → Nat :=
  let c0_202 : Index := 0#32
  let c1_203 : Index := 1#32
  let c0_i32_17 : BitVec 32 := 0#32
  let arg1 : BitVec 32 := BitVec.ofNat 32 (i 1).val
  let v28 : BitVec 32 := Scalar.subi arg1 c0_i32_17
  let c1_i32_18 : BitVec 32 := 1#32
  let v30 : BitVec 32 := Scalar.divsi v28 c1_i32_18
  let v31 : BitVec 32 := Scalar.muli v30 c1_i32_18
  let v32 : BitVec 32 := Scalar.addi c0_i32_17 v31
  let c1_i32_20 : BitVec 32 := 1#32
  let arg16 : BitVec 32 := Scf.iv v32 c1_i32_20 k0_t2
  let c256_i32_201 : BitVec 32 := 256#32
  let v285 : BitVec 32 := Scalar.muli arg16 c256_i32_201
  let v286 : BitVec 32 := v285
  let v287 : Index := Scalar.indexCast v286
  let c0_204 : Index := 0#32
  ![0, 1, v287.toNat, 0]
def k0_off8 (i : grid0.Coords) (k0_t2 : Fin (k0_t2_loop i).trips) : Fin 4 → Nat :=
  let c0_206 : Index := 0#32
  let c1_207 : Index := 1#32
  let c0_i32_17 : BitVec 32 := 0#32
  let arg1 : BitVec 32 := BitVec.ofNat 32 (i 1).val
  let v28 : BitVec 32 := Scalar.subi arg1 c0_i32_17
  let c1_i32_18 : BitVec 32 := 1#32
  let v30 : BitVec 32 := Scalar.divsi v28 c1_i32_18
  let v31 : BitVec 32 := Scalar.muli v30 c1_i32_18
  let v32 : BitVec 32 := Scalar.addi c0_i32_17 v31
  let c1_i32_20 : BitVec 32 := 1#32
  let arg16 : BitVec 32 := Scf.iv v32 c1_i32_20 k0_t2
  let v291 : Index := Scalar.indexCast arg16
  let c0_208 : Index := 0#32
  ![0, 1, v291.toNat, 0]
def k0_mult5 (i : grid0.Coords) : BitVec 32 :=
  let arg1 : BitVec 32 := BitVec.ofNat 32 (i 1).val
  let c256_i32 : BitVec 32 := 256#32
  let v35 : BitVec 32 := Scalar.muli arg1 c256_i32
  v35
def k0_off9 (i : grid0.Coords) : Fin 4 → Nat :=
  let c0_25 : Index := 0#32
  let c0_26 : Index := 0#32
  let arg1 : BitVec 32 := BitVec.ofNat 32 (i 1).val
  let c256_i32 : BitVec 32 := 256#32
  let v35 : BitVec 32 := Scalar.muli arg1 c256_i32
  let v36 : BitVec 32 := v35
  let v37 : Index := Scalar.indexCast v36
  let c0_27 : Index := 0#32
  ![0, 0, v37.toNat, 0]
def k0_off10 (i : grid0.Coords) : Fin 4 → Nat :=
  let c0_29 : Index := 0#32
  let c0_30 : Index := 0#32
  let arg1 : BitVec 32 := BitVec.ofNat 32 (i 1).val
  let v41 : Index := Scalar.indexCast arg1
  let c0_31 : Index := 0#32
  ![0, 0, v41.toNat, 0]
def k0_mult6 (i : grid0.Coords) : BitVec 32 :=
  let arg1 : BitVec 32 := BitVec.ofNat 32 (i 1).val
  let c256_i32_47 : BitVec 32 := 256#32
  let v68 : BitVec 32 := Scalar.muli arg1 c256_i32_47
  v68
def k0_off11 (i : grid0.Coords) : Fin 4 → Nat :=
  let c0_48 : Index := 0#32
  let c1_49 : Index := 1#32
  let arg1 : BitVec 32 := BitVec.ofNat 32 (i 1).val
  let c256_i32_47 : BitVec 32 := 256#32
  let v68 : BitVec 32 := Scalar.muli arg1 c256_i32_47
  let v69 : BitVec 32 := v68
  let v70 : Index := Scalar.indexCast v69
  let c0_50 : Index := 0#32
  ![0, 1, v70.toNat, 0]
def k0_off12 (i : grid0.Coords) : Fin 4 → Nat :=
  let c0_52 : Index := 0#32
  let c1_53 : Index := 1#32
  let arg1 : BitVec 32 := BitVec.ofNat 32 (i 1).val
  let v74 : Index := Scalar.indexCast arg1
  let c0_54 : Index := 0#32
  ![0, 1, v74.toNat, 0]
@[reducible] def k0_t3_loop (i : grid0.Coords) : Scf.Loop 32 :=
  let c0_i32_81 : BitVec 32 := 0#32
  let arg1 : BitVec 32 := BitVec.ofNat 32 (i 1).val
  let v117 : BitVec 32 := Scalar.subi arg1 c0_i32_81
  let c1_i32_82 : BitVec 32 := 1#32
  let v119 : BitVec 32 := Scalar.divsi v117 c1_i32_82
  let v120 : BitVec 32 := Scalar.muli v119 c1_i32_82
  let v121 : BitVec 32 := Scalar.addi c0_i32_81 v120
  let c1_i32_83 : BitVec 32 := 1#32
  ⟨c0_i32_81, v121, c1_i32_83⟩
def k0_mult7 (i : grid0.Coords) (k0_t3 : Fin (k0_t3_loop i).trips) : BitVec 32 :=
  let c0_i32_81 : BitVec 32 := 0#32
  let c1_i32_83 : BitVec 32 := 1#32
  let arg16 : BitVec 32 := Scf.iv c0_i32_81 c1_i32_83 k0_t3
  let c256_i32_179 : BitVec 32 := 256#32
  let v257 : BitVec 32 := Scalar.muli arg16 c256_i32_179
  v257
def k0_off13 (i : grid0.Coords) (k0_t3 : Fin (k0_t3_loop i).trips) : Fin 4 → Nat :=
  let c0_180 : Index := 0#32
  let c0_181 : Index := 0#32
  let c0_i32_81 : BitVec 32 := 0#32
  let c1_i32_83 : BitVec 32 := 1#32
  let arg16 : BitVec 32 := Scf.iv c0_i32_81 c1_i32_83 k0_t3
  let c256_i32_179 : BitVec 32 := 256#32
  let v257 : BitVec 32 := Scalar.muli arg16 c256_i32_179
  let v258 : BitVec 32 := v257
  let v259 : Index := Scalar.indexCast v258
  let c0_182 : Index := 0#32
  ![0, 0, v259.toNat, 0]
def k0_off14 (i : grid0.Coords) (k0_t3 : Fin (k0_t3_loop i).trips) : Fin 4 → Nat :=
  let c0_184 : Index := 0#32
  let c0_185 : Index := 0#32
  let c0_i32_81 : BitVec 32 := 0#32
  let c1_i32_83 : BitVec 32 := 1#32
  let arg16 : BitVec 32 := Scf.iv c0_i32_81 c1_i32_83 k0_t3
  let v263 : Index := Scalar.indexCast arg16
  let c0_186 : Index := 0#32
  ![0, 0, v263.toNat, 0]
def k0_off15 (i : grid0.Coords) (k0_t3 : Fin (k0_t3_loop i).trips) : Fin 4 → Nat :=
  let c0_i32_81 : BitVec 32 := 0#32
  let c1_i32_83 : BitVec 32 := 1#32
  let arg16 : BitVec 32 := Scf.iv c0_i32_81 c1_i32_83 k0_t3
  let v279 : Index := Scalar.indexCast arg16
  let c0_194 : Index := 0#32
  let c0_195 : Index := 0#32
  let c0_196 : Index := 0#32
  ![v279.toNat, 0, 0, 0]
def k0_mult8 (i : grid0.Coords) (k0_t3 : Fin (k0_t3_loop i).trips) : BitVec 32 :=
  let c0_i32_81 : BitVec 32 := 0#32
  let c1_i32_83 : BitVec 32 := 1#32
  let arg16 : BitVec 32 := Scf.iv c0_i32_81 c1_i32_83 k0_t3
  let c256_i32_207 : BitVec 32 := 256#32
  let v294 : BitVec 32 := Scalar.muli arg16 c256_i32_207
  v294
def k0_off16 (i : grid0.Coords) (k0_t3 : Fin (k0_t3_loop i).trips) : Fin 4 → Nat :=
  let c0_208 : Index := 0#32
  let c1_209 : Index := 1#32
  let c0_i32_81 : BitVec 32 := 0#32
  let c1_i32_83 : BitVec 32 := 1#32
  let arg16 : BitVec 32 := Scf.iv c0_i32_81 c1_i32_83 k0_t3
  let c256_i32_207 : BitVec 32 := 256#32
  let v294 : BitVec 32 := Scalar.muli arg16 c256_i32_207
  let v295 : BitVec 32 := v294
  let v296 : Index := Scalar.indexCast v295
  let c0_210 : Index := 0#32
  ![0, 1, v296.toNat, 0]
def k0_off17 (i : grid0.Coords) (k0_t3 : Fin (k0_t3_loop i).trips) : Fin 4 → Nat :=
  let c0_212 : Index := 0#32
  let c1_213 : Index := 1#32
  let c0_i32_81 : BitVec 32 := 0#32
  let c1_i32_83 : BitVec 32 := 1#32
  let arg16 : BitVec 32 := Scf.iv c0_i32_81 c1_i32_83 k0_t3
  let v300 : Index := Scalar.indexCast arg16
  let c0_214 : Index := 0#32
  ![0, 1, v300.toNat, 0]
def k0_off18 (i : grid0.Coords) (k0_t3 : Fin (k0_t3_loop i).trips) : Fin 4 → Nat :=
  let c0_i32_81 : BitVec 32 := 0#32
  let c1_i32_83 : BitVec 32 := 1#32
  let arg16 : BitVec 32 := Scf.iv c0_i32_81 c1_i32_83 k0_t3
  let v316 : Index := Scalar.indexCast arg16
  let c1_222 : Index := 1#32
  let c0_223 : Index := 0#32
  let c0_224 : Index := 0#32
  ![v316.toNat, 1, 0, 0]
@[reducible] def k0_t4_loop (i : grid0.Coords) : Scf.Loop 32 :=
  let c0_i32_81 : BitVec 32 := 0#32
  let arg1 : BitVec 32 := BitVec.ofNat 32 (i 1).val
  let v117 : BitVec 32 := Scalar.subi arg1 c0_i32_81
  let c1_i32_82 : BitVec 32 := 1#32
  let v119 : BitVec 32 := Scalar.divsi v117 c1_i32_82
  let v120 : BitVec 32 := Scalar.muli v119 c1_i32_82
  let v121 : BitVec 32 := Scalar.addi c0_i32_81 v120
  let v118 : BitVec 32 := Scalar.addi c0_i32_81 v117
  let c1_i32_84 : BitVec 32 := 1#32
  ⟨v121, v118, c1_i32_84⟩
def k0_mult9 (i : grid0.Coords) (k0_t4 : Fin (k0_t4_loop i).trips) : BitVec 32 :=
  let c0_i32_81 : BitVec 32 := 0#32
  let arg1 : BitVec 32 := BitVec.ofNat 32 (i 1).val
  let v117 : BitVec 32 := Scalar.subi arg1 c0_i32_81
  let c1_i32_82 : BitVec 32 := 1#32
  let v119 : BitVec 32 := Scalar.divsi v117 c1_i32_82
  let v120 : BitVec 32 := Scalar.muli v119 c1_i32_82
  let v121 : BitVec 32 := Scalar.addi c0_i32_81 v120
  let c1_i32_84 : BitVec 32 := 1#32
  let arg16 : BitVec 32 := Scf.iv v121 c1_i32_84 k0_t4
  let c256_i32_179 : BitVec 32 := 256#32
  let v257 : BitVec 32 := Scalar.muli arg16 c256_i32_179
  v257
def k0_off19 (i : grid0.Coords) (k0_t4 : Fin (k0_t4_loop i).trips) : Fin 4 → Nat :=
  let c0_180 : Index := 0#32
  let c0_181 : Index := 0#32
  let c0_i32_81 : BitVec 32 := 0#32
  let arg1 : BitVec 32 := BitVec.ofNat 32 (i 1).val
  let v117 : BitVec 32 := Scalar.subi arg1 c0_i32_81
  let c1_i32_82 : BitVec 32 := 1#32
  let v119 : BitVec 32 := Scalar.divsi v117 c1_i32_82
  let v120 : BitVec 32 := Scalar.muli v119 c1_i32_82
  let v121 : BitVec 32 := Scalar.addi c0_i32_81 v120
  let c1_i32_84 : BitVec 32 := 1#32
  let arg16 : BitVec 32 := Scf.iv v121 c1_i32_84 k0_t4
  let c256_i32_179 : BitVec 32 := 256#32
  let v257 : BitVec 32 := Scalar.muli arg16 c256_i32_179
  let v258 : BitVec 32 := v257
  let v259 : Index := Scalar.indexCast v258
  let c0_182 : Index := 0#32
  ![0, 0, v259.toNat, 0]
def k0_off20 (i : grid0.Coords) (k0_t4 : Fin (k0_t4_loop i).trips) : Fin 4 → Nat :=
  let c0_184 : Index := 0#32
  let c0_185 : Index := 0#32
  let c0_i32_81 : BitVec 32 := 0#32
  let arg1 : BitVec 32 := BitVec.ofNat 32 (i 1).val
  let v117 : BitVec 32 := Scalar.subi arg1 c0_i32_81
  let c1_i32_82 : BitVec 32 := 1#32
  let v119 : BitVec 32 := Scalar.divsi v117 c1_i32_82
  let v120 : BitVec 32 := Scalar.muli v119 c1_i32_82
  let v121 : BitVec 32 := Scalar.addi c0_i32_81 v120
  let c1_i32_84 : BitVec 32 := 1#32
  let arg16 : BitVec 32 := Scf.iv v121 c1_i32_84 k0_t4
  let v263 : Index := Scalar.indexCast arg16
  let c0_186 : Index := 0#32
  ![0, 0, v263.toNat, 0]
def k0_off21 (i : grid0.Coords) (k0_t4 : Fin (k0_t4_loop i).trips) : Fin 4 → Nat :=
  let c0_i32_81 : BitVec 32 := 0#32
  let arg1 : BitVec 32 := BitVec.ofNat 32 (i 1).val
  let v117 : BitVec 32 := Scalar.subi arg1 c0_i32_81
  let c1_i32_82 : BitVec 32 := 1#32
  let v119 : BitVec 32 := Scalar.divsi v117 c1_i32_82
  let v120 : BitVec 32 := Scalar.muli v119 c1_i32_82
  let v121 : BitVec 32 := Scalar.addi c0_i32_81 v120
  let c1_i32_84 : BitVec 32 := 1#32
  let arg16 : BitVec 32 := Scf.iv v121 c1_i32_84 k0_t4
  let v279 : Index := Scalar.indexCast arg16
  let c0_194 : Index := 0#32
  let c0_195 : Index := 0#32
  let c0_196 : Index := 0#32
  ![v279.toNat, 0, 0, 0]
def k0_mult10 (i : grid0.Coords) (k0_t4 : Fin (k0_t4_loop i).trips) : BitVec 32 :=
  let c0_i32_81 : BitVec 32 := 0#32
  let arg1 : BitVec 32 := BitVec.ofNat 32 (i 1).val
  let v117 : BitVec 32 := Scalar.subi arg1 c0_i32_81
  let c1_i32_82 : BitVec 32 := 1#32
  let v119 : BitVec 32 := Scalar.divsi v117 c1_i32_82
  let v120 : BitVec 32 := Scalar.muli v119 c1_i32_82
  let v121 : BitVec 32 := Scalar.addi c0_i32_81 v120
  let c1_i32_84 : BitVec 32 := 1#32
  let arg16 : BitVec 32 := Scf.iv v121 c1_i32_84 k0_t4
  let c256_i32_207 : BitVec 32 := 256#32
  let v294 : BitVec 32 := Scalar.muli arg16 c256_i32_207
  v294
def k0_off22 (i : grid0.Coords) (k0_t4 : Fin (k0_t4_loop i).trips) : Fin 4 → Nat :=
  let c0_208 : Index := 0#32
  let c1_209 : Index := 1#32
  let c0_i32_81 : BitVec 32 := 0#32
  let arg1 : BitVec 32 := BitVec.ofNat 32 (i 1).val
  let v117 : BitVec 32 := Scalar.subi arg1 c0_i32_81
  let c1_i32_82 : BitVec 32 := 1#32
  let v119 : BitVec 32 := Scalar.divsi v117 c1_i32_82
  let v120 : BitVec 32 := Scalar.muli v119 c1_i32_82
  let v121 : BitVec 32 := Scalar.addi c0_i32_81 v120
  let c1_i32_84 : BitVec 32 := 1#32
  let arg16 : BitVec 32 := Scf.iv v121 c1_i32_84 k0_t4
  let c256_i32_207 : BitVec 32 := 256#32
  let v294 : BitVec 32 := Scalar.muli arg16 c256_i32_207
  let v295 : BitVec 32 := v294
  let v296 : Index := Scalar.indexCast v295
  let c0_210 : Index := 0#32
  ![0, 1, v296.toNat, 0]
def k0_off23 (i : grid0.Coords) (k0_t4 : Fin (k0_t4_loop i).trips) : Fin 4 → Nat :=
  let c0_212 : Index := 0#32
  let c1_213 : Index := 1#32
  let c0_i32_81 : BitVec 32 := 0#32
  let arg1 : BitVec 32 := BitVec.ofNat 32 (i 1).val
  let v117 : BitVec 32 := Scalar.subi arg1 c0_i32_81
  let c1_i32_82 : BitVec 32 := 1#32
  let v119 : BitVec 32 := Scalar.divsi v117 c1_i32_82
  let v120 : BitVec 32 := Scalar.muli v119 c1_i32_82
  let v121 : BitVec 32 := Scalar.addi c0_i32_81 v120
  let c1_i32_84 : BitVec 32 := 1#32
  let arg16 : BitVec 32 := Scf.iv v121 c1_i32_84 k0_t4
  let v300 : Index := Scalar.indexCast arg16
  let c0_214 : Index := 0#32
  ![0, 1, v300.toNat, 0]
def k0_off24 (i : grid0.Coords) (k0_t4 : Fin (k0_t4_loop i).trips) : Fin 4 → Nat :=
  let c0_i32_81 : BitVec 32 := 0#32
  let arg1 : BitVec 32 := BitVec.ofNat 32 (i 1).val
  let v117 : BitVec 32 := Scalar.subi arg1 c0_i32_81
  let c1_i32_82 : BitVec 32 := 1#32
  let v119 : BitVec 32 := Scalar.divsi v117 c1_i32_82
  let v120 : BitVec 32 := Scalar.muli v119 c1_i32_82
  let v121 : BitVec 32 := Scalar.addi c0_i32_81 v120
  let c1_i32_84 : BitVec 32 := 1#32
  let arg16 : BitVec 32 := Scf.iv v121 c1_i32_84 k0_t4
  let v316 : Index := Scalar.indexCast arg16
  let c1_222 : Index := 1#32
  let c0_223 : Index := 0#32
  let c0_224 : Index := 0#32
  ![v316.toNat, 1, 0, 0]
def k0_mult11 (i : grid0.Coords) : BitVec 32 :=
  let arg1 : BitVec 32 := BitVec.ofNat 32 (i 1).val
  let c256_i32_89 : BitVec 32 := 256#32
  let v124 : BitVec 32 := Scalar.muli arg1 c256_i32_89
  v124
def k0_off25 (i : grid0.Coords) : Fin 4 → Nat :=
  let arg1 : BitVec 32 := BitVec.ofNat 32 (i 1).val
  let v151 : Index := Scalar.indexCast arg1
  let c0_105 : Index := 0#32
  let c0_106 : Index := 0#32
  let c0_107 : Index := 0#32
  ![v151.toNat, 0, 0, 0]
def k0_mult12 (i : grid0.Coords) : BitVec 32 :=
  let arg1 : BitVec 32 := BitVec.ofNat 32 (i 1).val
  let c256_i32_118 : BitVec 32 := 256#32
  let v166 : BitVec 32 := Scalar.muli arg1 c256_i32_118
  v166
def k0_off26 (i : grid0.Coords) : Fin 4 → Nat :=
  let arg1 : BitVec 32 := BitVec.ofNat 32 (i 1).val
  let v193 : Index := Scalar.indexCast arg1
  let c1_134 : Index := 1#32
  let c0_135 : Index := 0#32
  let c0_136 : Index := 0#32
  ![v193.toNat, 1, 0, 0]
@[reducible] def k0_t5_loop (i : grid0.Coords) : Scf.Loop 32 :=
  let c0_i32_157 : BitVec 32 := 0#32
  let arg1 : BitVec 32 := BitVec.ofNat 32 (i 1).val
  let c1_i32 : BitVec 32 := 1#32
  let v0 : BitVec 32 := Scalar.addi arg1 c1_i32
  let v223 : BitVec 32 := Scalar.subi v0 c0_i32_157
  let c1_i32_158 : BitVec 32 := 1#32
  let v225 : BitVec 32 := Scalar.divsi v223 c1_i32_158
  let v226 : BitVec 32 := Scalar.muli v225 c1_i32_158
  let v227 : BitVec 32 := Scalar.addi c0_i32_157 v226
  let c1_i32_159 : BitVec 32 := 1#32
  ⟨c0_i32_157, v227, c1_i32_159⟩
def k0_off27 (i : grid0.Coords) (k0_t5 : Fin (k0_t5_loop i).trips) : Fin 4 → Nat :=
  let c0_i32_157 : BitVec 32 := 0#32
  let c1_i32_159 : BitVec 32 := 1#32
  let arg16 : BitVec 32 := Scf.iv c0_i32_157 c1_i32_159 k0_t5
  let v258 : Index := Scalar.indexCast arg16
  let c0_178 : Index := 0#32
  let c0_179 : Index := 0#32
  let c0_180 : Index := 0#32
  ![v258.toNat, 0, 0, 0]
def k0_off28 (i : grid0.Coords) (k0_t5 : Fin (k0_t5_loop i).trips) : Fin 4 → Nat :=
  let c0_i32_157 : BitVec 32 := 0#32
  let c1_i32_159 : BitVec 32 := 1#32
  let arg16 : BitVec 32 := Scf.iv c0_i32_157 c1_i32_159 k0_t5
  let v261 : Index := Scalar.indexCast arg16
  let c1_181 : Index := 1#32
  let c0_182 : Index := 0#32
  let c0_183 : Index := 0#32
  ![v261.toNat, 1, 0, 0]
def k0_mult13 (i : grid0.Coords) (k0_t5 : Fin (k0_t5_loop i).trips) : BitVec 32 :=
  let c0_i32_157 : BitVec 32 := 0#32
  let c1_i32_159 : BitVec 32 := 1#32
  let arg16 : BitVec 32 := Scf.iv c0_i32_157 c1_i32_159 k0_t5
  let c256_i32_184 : BitVec 32 := 256#32
  let v267 : BitVec 32 := Scalar.muli arg16 c256_i32_184
  v267
def k0_off29 (i : grid0.Coords) (k0_t5 : Fin (k0_t5_loop i).trips) : Fin 3 → Nat :=
  let c0_185 : Index := 0#32
  let c0_i32_157 : BitVec 32 := 0#32
  let c1_i32_159 : BitVec 32 := 1#32
  let arg16 : BitVec 32 := Scf.iv c0_i32_157 c1_i32_159 k0_t5
  let c256_i32_184 : BitVec 32 := 256#32
  let v267 : BitVec 32 := Scalar.muli arg16 c256_i32_184
  let v268 : BitVec 32 := v267
  let v269 : Index := Scalar.indexCast v268
  let c0_186 : Index := 0#32
  ![0, v269.toNat, 0]
@[reducible] def k0_t6_loop (i : grid0.Coords) : Scf.Loop 32 :=
  let c0_i32_157 : BitVec 32 := 0#32
  let arg1 : BitVec 32 := BitVec.ofNat 32 (i 1).val
  let c1_i32 : BitVec 32 := 1#32
  let v0 : BitVec 32 := Scalar.addi arg1 c1_i32
  let v223 : BitVec 32 := Scalar.subi v0 c0_i32_157
  let c1_i32_158 : BitVec 32 := 1#32
  let v225 : BitVec 32 := Scalar.divsi v223 c1_i32_158
  let v226 : BitVec 32 := Scalar.muli v225 c1_i32_158
  let v227 : BitVec 32 := Scalar.addi c0_i32_157 v226
  let v224 : BitVec 32 := Scalar.addi c0_i32_157 v223
  let c1_i32_160 : BitVec 32 := 1#32
  ⟨v227, v224, c1_i32_160⟩
def k0_off30 (i : grid0.Coords) (k0_t6 : Fin (k0_t6_loop i).trips) : Fin 4 → Nat :=
  let c0_i32_157 : BitVec 32 := 0#32
  let arg1 : BitVec 32 := BitVec.ofNat 32 (i 1).val
  let c1_i32 : BitVec 32 := 1#32
  let v0 : BitVec 32 := Scalar.addi arg1 c1_i32
  let v223 : BitVec 32 := Scalar.subi v0 c0_i32_157
  let c1_i32_158 : BitVec 32 := 1#32
  let v225 : BitVec 32 := Scalar.divsi v223 c1_i32_158
  let v226 : BitVec 32 := Scalar.muli v225 c1_i32_158
  let v227 : BitVec 32 := Scalar.addi c0_i32_157 v226
  let c1_i32_160 : BitVec 32 := 1#32
  let arg16 : BitVec 32 := Scf.iv v227 c1_i32_160 k0_t6
  let v258 : Index := Scalar.indexCast arg16
  let c0_178 : Index := 0#32
  let c0_179 : Index := 0#32
  let c0_180 : Index := 0#32
  ![v258.toNat, 0, 0, 0]
def k0_off31 (i : grid0.Coords) (k0_t6 : Fin (k0_t6_loop i).trips) : Fin 4 → Nat :=
  let c0_i32_157 : BitVec 32 := 0#32
  let arg1 : BitVec 32 := BitVec.ofNat 32 (i 1).val
  let c1_i32 : BitVec 32 := 1#32
  let v0 : BitVec 32 := Scalar.addi arg1 c1_i32
  let v223 : BitVec 32 := Scalar.subi v0 c0_i32_157
  let c1_i32_158 : BitVec 32 := 1#32
  let v225 : BitVec 32 := Scalar.divsi v223 c1_i32_158
  let v226 : BitVec 32 := Scalar.muli v225 c1_i32_158
  let v227 : BitVec 32 := Scalar.addi c0_i32_157 v226
  let c1_i32_160 : BitVec 32 := 1#32
  let arg16 : BitVec 32 := Scf.iv v227 c1_i32_160 k0_t6
  let v261 : Index := Scalar.indexCast arg16
  let c1_181 : Index := 1#32
  let c0_182 : Index := 0#32
  let c0_183 : Index := 0#32
  ![v261.toNat, 1, 0, 0]
def k0_mult14 (i : grid0.Coords) (k0_t6 : Fin (k0_t6_loop i).trips) : BitVec 32 :=
  let c0_i32_157 : BitVec 32 := 0#32
  let arg1 : BitVec 32 := BitVec.ofNat 32 (i 1).val
  let c1_i32 : BitVec 32 := 1#32
  let v0 : BitVec 32 := Scalar.addi arg1 c1_i32
  let v223 : BitVec 32 := Scalar.subi v0 c0_i32_157
  let c1_i32_158 : BitVec 32 := 1#32
  let v225 : BitVec 32 := Scalar.divsi v223 c1_i32_158
  let v226 : BitVec 32 := Scalar.muli v225 c1_i32_158
  let v227 : BitVec 32 := Scalar.addi c0_i32_157 v226
  let c1_i32_160 : BitVec 32 := 1#32
  let arg16 : BitVec 32 := Scf.iv v227 c1_i32_160 k0_t6
  let c256_i32_184 : BitVec 32 := 256#32
  let v267 : BitVec 32 := Scalar.muli arg16 c256_i32_184
  v267
def k0_off32 (i : grid0.Coords) (k0_t6 : Fin (k0_t6_loop i).trips) : Fin 3 → Nat :=
  let c0_185 : Index := 0#32
  let c0_i32_157 : BitVec 32 := 0#32
  let arg1 : BitVec 32 := BitVec.ofNat 32 (i 1).val
  let c1_i32 : BitVec 32 := 1#32
  let v0 : BitVec 32 := Scalar.addi arg1 c1_i32
  let v223 : BitVec 32 := Scalar.subi v0 c0_i32_157
  let c1_i32_158 : BitVec 32 := 1#32
  let v225 : BitVec 32 := Scalar.divsi v223 c1_i32_158
  let v226 : BitVec 32 := Scalar.muli v225 c1_i32_158
  let v227 : BitVec 32 := Scalar.addi c0_i32_157 v226
  let c1_i32_160 : BitVec 32 := 1#32
  let arg16 : BitVec 32 := Scf.iv v227 c1_i32_160 k0_t6
  let c256_i32_184 : BitVec 32 := 256#32
  let v267 : BitVec 32 := Scalar.muli arg16 c256_i32_184
  let v268 : BitVec 32 := v267
  let v269 : Index := Scalar.indexCast v268
  let c0_186 : Index := 0#32
  ![0, v269.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2x256x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x16384x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16384x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S1x16384x28x2x128 : Shape := ⟨5, ![1, 16384, 28, 2, 128]⟩
abbrev S1x16384x28x2 : Shape := ⟨4, ![1, 16384, 28, 2]⟩
abbrev S1x16384x28x256 : Shape := ⟨4, ![1, 16384, 28, 256]⟩
abbrev S28x256 : Shape := ⟨2, ![28, 256]⟩
abbrev S128 : Shape := ⟨1, ![128]⟩
abbrev S256 : Shape := ⟨1, ![256]⟩
abbrev S_ : Shape := ⟨0, ![]⟩
abbrev S1x28x2x16384 : Shape := ⟨4, ![1, 28, 2, 16384]⟩
abbrev S16384 : Shape := ⟨1, ![16384]⟩
abbrev S1x28x2x16384x16384 : Shape := ⟨5, ![1, 28, 2, 16384, 16384]⟩
abbrev S1x28x2x16384x1 : Shape := ⟨5, ![1, 28, 2, 16384, 1]⟩
abbrev S1x28x2x1x16384 : Shape := ⟨5, ![1, 28, 2, 1, 16384]⟩
abbrev S1x16384 : Shape := ⟨2, ![1, 16384]⟩
abbrev S16384x1 : Shape := ⟨2, ![16384, 1]⟩
abbrev S16384x16384 : Shape := ⟨2, ![16384, 16384]⟩
abbrev S1x28x1x16384x1 : Shape := ⟨5, ![1, 28, 1, 16384, 1]⟩
abbrev S1x28x16384x1 : Shape := ⟨4, ![1, 28, 16384, 1]⟩
abbrev S1x28x1x16384x16384 : Shape := ⟨5, ![1, 28, 1, 16384, 16384]⟩
abbrev S1x28x16384x16384 : Shape := ⟨4, ![1, 28, 16384, 16384]⟩
abbrev S1x28x256x16384 : Shape := ⟨4, ![1, 28, 256, 16384]⟩
abbrev S1x1x28x256 : Shape := ⟨4, ![1, 1, 28, 256]⟩
abbrev S1x16384x28 : Shape := ⟨3, ![1, 16384, 28]⟩
abbrev S1x16384x28x1 : Shape := ⟨4, ![1, 16384, 28, 1]⟩
abbrev S1x1x1x256 : Shape := ⟨4, ![1, 1, 1, 256]⟩
abbrev S1x16384x7168 : Shape := ⟨3, ![1, 16384, 7168]⟩

abbrev nBuf : Space → Nat
  | .hbm => 115
  | .vmem => 6
  | .smem => 0
  | _ => 0

abbrev bufTy : (tb : Table) → Fin (tcTables nBuf tb) → BufTy
  | .hbm, ⟨0, _⟩ => ⟨S1x16384x28x2x128, .fp8e4m3⟩
  | .hbm, ⟨1, _⟩ => ⟨S1x16384x28x2, .f32⟩
  | .hbm, ⟨2, _⟩ => ⟨S1x16384x28x2x128, .fp8e4m3⟩
  | .hbm, ⟨3, _⟩ => ⟨S1x16384x28x2, .f32⟩
  | .hbm, ⟨4, _⟩ => ⟨S1x16384x28x256, .fp8e4m3⟩
  | .hbm, ⟨5, _⟩ => ⟨S28x256, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S256, .f32⟩
  | .hbm, ⟨11, _⟩ => ⟨S1x16384x28x2x128, .f32⟩
  | .hbm, ⟨12, _⟩ => ⟨S1x16384x28x2x128, .f32⟩
  | .hbm, ⟨13, _⟩ => ⟨S1x16384x28x256, .bf16⟩
  | .hbm, ⟨14, _⟩ => ⟨S128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x28x2x16384, .f32⟩
  | .hbm, ⟨26, _⟩ => ⟨S_, .f32⟩
  | .hbm, ⟨27, _⟩ => ⟨S1x28x2x16384, .f32⟩
  | .hbm, ⟨28, _⟩ => ⟨S1x28x2x16384, .f32⟩
  | .hbm, ⟨29, _⟩ => ⟨S16384, .i32⟩
  | .hbm, ⟨30, _⟩ => ⟨S1x28x2x16384x16384, .f32⟩
  | .hbm, ⟨31, _⟩ => ⟨S1x28x2x16384, .f32⟩
  | .hbm, ⟨32, _⟩ => ⟨S1x28x2x16384x1, .f32⟩
  | .hbm, ⟨33, _⟩ => ⟨S1x28x2x16384x16384, .f32⟩
  | .hbm, ⟨34, _⟩ => ⟨S1x28x2x16384x16384, .f32⟩
  | .hbm, ⟨35, _⟩ => ⟨S1x28x2x1x16384, .f32⟩
  | .hbm, ⟨36, _⟩ => ⟨S1x28x2x16384x16384, .f32⟩
  | .hbm, ⟨37, _⟩ => ⟨S1x28x2x16384x16384, .f32⟩
  | .hbm, ⟨38, _⟩ => ⟨S1x16384, .i32⟩
  | .hbm, ⟨39, _⟩ => ⟨S16384x1, .i32⟩
  | .hbm, ⟨40, _⟩ => ⟨S16384x16384, .i32⟩
  | .hbm, ⟨41, _⟩ => ⟨S16384x16384, .i32⟩
  | .hbm, ⟨42, _⟩ => ⟨S16384x16384, .i1⟩
  | .hbm, ⟨43, _⟩ => ⟨S_, .f32⟩
  | .hbm, ⟨44, _⟩ => ⟨S_, .f32⟩
  | .hbm, ⟨45, _⟩ => ⟨S1x28x2x16384x16384, .i1⟩
  | .hbm, ⟨46, _⟩ => ⟨S1x28x2x16384x16384, .f32⟩
  | .hbm, ⟨47, _⟩ => ⟨S1x28x2x16384x16384, .f32⟩
  | .hbm, ⟨48, _⟩ => ⟨S_, .f32⟩
  | .hbm, ⟨49, _⟩ => ⟨S1x28x2x16384, .f32⟩
  | .hbm, ⟨50, _⟩ => ⟨S1x28x2x16384x1, .f32⟩
  | .hbm, ⟨51, _⟩ => ⟨S1x28x2x16384x1, .f32⟩
  | .hbm, ⟨52, _⟩ => ⟨S_, .f32⟩
  | .hbm, ⟨53, _⟩ => ⟨S1x28x2x16384x1, .f32⟩
  | .hbm, ⟨54, _⟩ => ⟨S1x28x2x16384x1, .i1⟩
  | .hbm, ⟨55, _⟩ => ⟨S_, .f32⟩
  | .hbm, ⟨56, _⟩ => ⟨S1x28x2x16384, .f32⟩
  | .hbm, ⟨57, _⟩ => ⟨S_, .f32⟩
  | .hbm, ⟨58, _⟩ => ⟨S1x28x2x16384, .f32⟩
  | .hbm, ⟨59, _⟩ => ⟨S1x28x2x16384, .f32⟩
  | .hbm, ⟨60, _⟩ => ⟨S1x28x2x16384x1, .f32⟩
  | .hbm, ⟨61, _⟩ => ⟨S1x28x2x16384x16384, .f32⟩
  | .hbm, ⟨62, _⟩ => ⟨S1x28x2x16384x16384, .f32⟩
  | .hbm, ⟨63, _⟩ => ⟨S1x28x2x16384x16384, .f32⟩
  | .hbm, ⟨64, _⟩ => ⟨S_, .f32⟩
  | .hbm, ⟨65, _⟩ => ⟨S1x28x2x16384, .f32⟩
  | .hbm, ⟨66, _⟩ => ⟨S1x28x2x16384x1, .f32⟩
  | .hbm, ⟨67, _⟩ => ⟨S1x28x2x16384x16384, .f32⟩
  | .hbm, ⟨68, _⟩ => ⟨S1x28x2x16384x16384, .f32⟩
  | .hbm, ⟨69, _⟩ => ⟨S_, .f32⟩
  | .hbm, ⟨70, _⟩ => ⟨S_, .f32⟩
  | .hbm, ⟨71, _⟩ => ⟨S1x28x2x16384x16384, .i1⟩
  | .hbm, ⟨72, _⟩ => ⟨S1x28x2x16384x16384, .f32⟩
  | .hbm, ⟨73, _⟩ => ⟨S1x28x2x16384x16384, .f32⟩
  | .hbm, ⟨74, _⟩ => ⟨S1x28x1x16384x1, .i1⟩
  | .hbm, ⟨75, _⟩ => ⟨S1x28x16384x1, .i1⟩
  | .hbm, ⟨76, _⟩ => ⟨S1x28x1x16384x16384, .f32⟩
  | .hbm, ⟨77, _⟩ => ⟨S1x28x16384x16384, .f32⟩
  | .hbm, ⟨78, _⟩ => ⟨S1x28x1x16384x16384, .f32⟩
  | .hbm, ⟨79, _⟩ => ⟨S1x28x16384x16384, .f32⟩
  | .hbm, ⟨80, _⟩ => ⟨S1x28x16384x16384, .f32⟩
  | .hbm, ⟨81, _⟩ => ⟨S1x28x16384x16384, .f32⟩
  | .hbm, ⟨82, _⟩ => ⟨S1x28x16384x16384, .f32⟩
  | .hbm, ⟨83, _⟩ => ⟨S_, .f32⟩
  | .hbm, ⟨84, _⟩ => ⟨S_, .f32⟩
  | .hbm, ⟨85, _⟩ => ⟨S1x28x16384x16384, .i1⟩
  | .hbm, ⟨86, _⟩ => ⟨S1x28x16384x16384, .f32⟩
  | .hbm, ⟨87, _⟩ => ⟨S1x28x16384x16384, .f32⟩
  | .hbm, ⟨88, _⟩ => ⟨S1x28x16384x16384, .bf16⟩
  | .hbm, ⟨89, _⟩ => ⟨S1x28x256x16384, .f32⟩
  | .hbm, ⟨90, _⟩ => ⟨S1x16384x28x256, .f32⟩
  | .hbm, ⟨91, _⟩ => ⟨S1x1x28x256, .f32⟩
  | .hbm, ⟨92, _⟩ => ⟨S1x16384x28x256, .f32⟩
  | .hbm, ⟨93, _⟩ => ⟨S1x16384x28x256, .f32⟩
  | .hbm, ⟨94, _⟩ => ⟨S1x16384x28x256, .f32⟩
  | .hbm, ⟨95, _⟩ => ⟨S_, .f32⟩
  | .hbm, ⟨96, _⟩ => ⟨S1x16384x28, .f32⟩
  | .hbm, ⟨97, _⟩ => ⟨S1x16384x28x1, .f32⟩
  | .hbm, ⟨98, _⟩ => ⟨S_, .f32⟩
  | .hbm, ⟨99, _⟩ => ⟨S1x16384x28x1, .f32⟩
  | .hbm, ⟨100, _⟩ => ⟨S1x16384x28x1, .f32⟩
  | .hbm, ⟨101, _⟩ => ⟨S_, .f32⟩
  | .hbm, ⟨102, _⟩ => ⟨S1x16384x28x1, .f32⟩
  | .hbm, ⟨103, _⟩ => ⟨S1x16384x28x1, .f32⟩
  | .hbm, ⟨104, _⟩ => ⟨S1x16384x28x1, .f32⟩
  | .hbm, ⟨105, _⟩ => ⟨S1x16384x28x256, .f32⟩
  | .hbm, ⟨106, _⟩ => ⟨S1x16384x28x256, .f32⟩
  | .hbm, ⟨107, _⟩ => ⟨S1x1x1x256, .f32⟩
  | .hbm, ⟨108, _⟩ => ⟨S1x16384x28x256, .f32⟩
  | .hbm, ⟨109, _⟩ => ⟨S1x16384x28x256, .f32⟩
  | .hbm, ⟨110, _⟩ => ⟨S_, .f32⟩
  | .hbm, ⟨111, _⟩ => ⟨S1x16384x28x256, .f32⟩
  | .hbm, ⟨112, _⟩ => ⟨S1x16384x28x256, .f32⟩
  | .hbm, ⟨113, _⟩ => ⟨S1x16384x7168, .f32⟩
  | .hbm, ⟨114, _⟩ => ⟨S1x16384x7168, .bf16⟩
  | .local _ .vmem, ⟨0, _⟩ => ⟨S1x16384x28x2x128, .fp8e4m3⟩
  | .local _ .vmem, ⟨1, _⟩ => ⟨S1x16384x28x2x128, .fp8e4m3⟩
  | .local _ .vmem, ⟨2, _⟩ => ⟨S1x16384x28x256, .fp8e4m3⟩
  | .local _ .vmem, ⟨3, _⟩ => ⟨S1x16384x28x2x128, .f32⟩
  | .local _ .vmem, ⟨4, _⟩ => ⟨S1x16384x28x2x128, .f32⟩
  | .local _ .vmem, ⟨5, _⟩ => ⟨S1x16384x28x256, .bf16⟩
  | _, _ => ⟨S1x16384x28x2x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_11 : Ref sig .tc := ⟨.hbm, 95, rfl⟩
abbrev main_v61 : Ref sig .tc := ⟨.hbm, 96, rfl⟩
abbrev main_v62 : Ref sig .tc := ⟨.hbm, 97, rfl⟩
abbrev main_cst_12 : Ref sig .tc := ⟨.hbm, 98, rfl⟩
abbrev main_v63 : Ref sig .tc := ⟨.hbm, 99, rfl⟩
abbrev main_v64 : Ref sig .tc := ⟨.hbm, 100, rfl⟩
abbrev main_cst_13 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_14 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x16384x28x2x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16384x28x2x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16384x28x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16384x28x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16384x28x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16384x28x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelRuns.lean ====
/- What the body is handed at a grid point, as memrefs: the staging buffers and the scratch buffers. And the buffers the lines after the region write. -/
module

public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v25}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The kernel body on any staging memrefs: a subtype the run finds -/

/-- Each window's current staging memref at point `t`, spelled as the pipeline passes it (`bodyAt0`), and its wholeness. -/
abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2x256x128 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x16384x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x64x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16384x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x256 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S64x2x256x256 .f32 := Memref.whole cc0_scratch0
abbrev scM0_1 : Memref sig .tc .vmem S2x256x128 .f32 := Memref.whole cc0_scratch1
abbrev scM0_2 : Memref sig .tc .vmem S2x256x128 .f32 := Memref.whole cc0_scratch2
abbrev scM0_3 : Memref sig .tc .vmem S2x256x128 .f32 := Memref.whole cc0_scratch3
abbrev scM0_4 : Memref sig .tc .vmem S256x256 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c)⟩) h

end Cert.Kernel.Run

end
-- ==== Proof.KernelFrame.lean ====
/- The frame of the kernel: every weakly fair execution ends, with the arguments unchanged and every counter at zero. Nothing is said of the result here. -/
module

public import proofs.«01_k».proof.Proof.KernelRuns
public import Idealize.ShloMosaic.Lib.LoopRemainder
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (8) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .smem S1x1 .f32) (harg2 : arg2.IsWhole) (arg3 : Memref sig .tc .vmem S1x2x256x128 .fp8e4m3) (harg3 : arg3.IsWhole) (arg4 : Memref sig .tc .vmem S1x2x256 .f32) (harg4 : arg4.IsWhole) (arg5 : Memref sig .tc .vmem S1x2x16384x128 .fp8e4m3) (harg5 : arg5.IsWhole) (arg6 : Memref sig .tc .vmem S1x2x64x256 .f32) (harg6 : arg6.IsWhole) (arg7 : Memref sig .tc .vmem S1x16384x256 .fp8e4m3) (harg7 : arg7.IsWhole) (arg8 : Memref sig .tc .vmem S1x1x256 .f32) (harg8 : arg8.IsWhole) (arg9 : Memref sig .tc .vmem S1x256 .f32) (harg9 : arg9.IsWhole) (arg10 : Memref sig .tc .vmem S256x256 .bf16) (harg10 : arg10.IsWhole) (arg11 : Memref sig .tc .vmem S64x2x256x256 .f32) (harg11 : arg11.IsWhole) (arg12 : Memref sig .tc .vmem S2x256x128 .f32) (harg12 : arg12.IsWhole) (arg13 : Memref sig .tc .vmem S2x256x128 .f32) (harg13 : arg13.IsWhole) (arg14 : Memref sig .tc .vmem S2x256x128 .f32) (harg14 : arg14.IsWhole) (arg15 : Memref sig .tc .vmem S256x256 .f32) (harg15 : arg15.IsWhole)
    (x0 : Vec F S1x1 .f32) (x1 : Vec F S1x2x256x128 .fp8e4m3) (x2 : Vec F S1x2x256 .f32) (x3 : Vec F S1x2x16384x128 .fp8e4m3) (x4 : Vec F S1x2x64x256 .f32) (x5 : Vec F S1x16384x256 .fp8e4m3) (x6 : Vec F S1x1x256 .f32) (x7 : Vec F S1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_diff_attn i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_diff_attn_eq_skeleton]; unfold cc0_diff_attn_skel
    simp only [k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

/-! ## The pipeline's proof data -/

/-- The output windows this certificate FORGETS (8): nothing reads what the kernel leaves in them, so nothing
    of it is named (Lib/Pipeline/Dat.lean `Dat.toRForget`). -/
def forgets0 : Fin 9 → Bool := fun w => w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 8) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (fun c => (dats m 0 c).toRForget forgets0) (A_eq m) (run_main m ρ)

/-- THE FRAME: `Cert.quiescent_Kernel`'s statement (Defs.lean) at any `F` — Proof.lean cites it at `Bits`:
    the claim's first frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel.Run

end
-- ==== Proof.IdealRuns.lean ====
/- What the body is handed at a grid point, as memrefs: the staging buffers and the scratch buffers. And the buffers the lines after the region write. -/
module

public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v25}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The kernel body on any staging memrefs: a subtype the run finds -/

/-- Each window's current staging memref at point `t`, spelled as the pipeline passes it (`bodyAt0`), and its wholeness. -/
abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2x256x128 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x16384x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x64x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16384x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x256 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S64x2x256x256 .f32 := Memref.whole cc0_scratch0
abbrev scM0_1 : Memref sig .tc .vmem S2x256x128 .f32 := Memref.whole cc0_scratch1
abbrev scM0_2 : Memref sig .tc .vmem S2x256x128 .f32 := Memref.whole cc0_scratch2
abbrev scM0_3 : Memref sig .tc .vmem S2x256x128 .f32 := Memref.whole cc0_scratch3
abbrev scM0_4 : Memref sig .tc .vmem S256x256 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c)⟩) h

end Cert.KernelIdeal.Run

end
-- ==== Proof.IdealFrame.lean ====
/- The frame of the kernel: every weakly fair execution ends, with the arguments unchanged and every counter at zero. Nothing is said of the result here. -/
module

public import proofs.«01_k».proof.Proof.IdealRuns
public import Idealize.ShloMosaic.Lib.LoopRemainder
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (8) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .smem S1x1 .f32) (harg2 : arg2.IsWhole) (arg3 : Memref sig .tc .vmem S1x2x256x128 .fp8e4m3) (harg3 : arg3.IsWhole) (arg4 : Memref sig .tc .vmem S1x2x256 .f32) (harg4 : arg4.IsWhole) (arg5 : Memref sig .tc .vmem S1x2x16384x128 .fp8e4m3) (harg5 : arg5.IsWhole) (arg6 : Memref sig .tc .vmem S1x2x64x256 .f32) (harg6 : arg6.IsWhole) (arg7 : Memref sig .tc .vmem S1x16384x256 .fp8e4m3) (harg7 : arg7.IsWhole) (arg8 : Memref sig .tc .vmem S1x1x256 .f32) (harg8 : arg8.IsWhole) (arg9 : Memref sig .tc .vmem S1x256 .f32) (harg9 : arg9.IsWhole) (arg10 : Memref sig .tc .vmem S256x256 .bf16) (harg10 : arg10.IsWhole) (arg11 : Memref sig .tc .vmem S64x2x256x256 .f32) (harg11 : arg11.IsWhole) (arg12 : Memref sig .tc .vmem S2x256x128 .f32) (harg12 : arg12.IsWhole) (arg13 : Memref sig .tc .vmem S2x256x128 .f32) (harg13 : arg13.IsWhole) (arg14 : Memref sig .tc .vmem S2x256x128 .f32) (harg14 : arg14.IsWhole) (arg15 : Memref sig .tc .vmem S256x256 .f32) (harg15 : arg15.IsWhole)
    (x0 : Vec F S1x1 .f32) (x1 : Vec F S1x2x256x128 .fp8e4m3) (x2 : Vec F S1x2x256 .f32) (x3 : Vec F S1x2x16384x128 .fp8e4m3) (x4 : Vec F S1x2x64x256 .f32) (x5 : Vec F S1x16384x256 .fp8e4m3) (x6 : Vec F S1x1x256 .f32) (x7 : Vec F S1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_diff_attn i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_diff_attn_eq_skeleton]; unfold cc0_diff_attn_skel
    simp only [k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

/-! ## The pipeline's proof data -/

/-- The output windows this certificate FORGETS (8): nothing reads what the kernel leaves in them, so nothing
    of it is named (Lib/Pipeline/Dat.lean `Dat.toRForget`). -/
def forgets0 : Fin 9 → Bool := fun w => w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 8) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (fun c => (dats m 0 c).toRForget forgets0) (A_eq m) (run_main m ρ)

/-- THE FRAME: `Cert.quiescent_Kernel`'s statement (Defs.lean) at any `F` — Proof.lean cites it at `Bits`:
    the claim's first frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal.Run

end
-- ==== Proof.RefRead.lean ====
/- The reference's run read back, at an index. -/
module

public import proofs.«01_k».proof.Proof.Gen.ReferenceIdeal.Run
public import proofs.«01_k».proof.Proof.Gen.ReferenceIdeal.Read

@[expose] public section
end
-- ==== Proof.BodyVals.lean ====
/- What one grid point computes, as functions of the point's blocks: the running maxima, the exponentials kept tile by tile,
   the running sums, the weights and the accumulated product. Each function is a recursion over the key tiles. -/
module

public import proofs.«01_k».proof.Proof.Gen.KernelIdeal.Skeleton
public import Idealize.ShloMosaic.Lib.VecWindow
public import Idealize.ShloMosaic.Lib.ValueIdxCore

@[expose] public section

set_option maxRecDepth 16384

noncomputable section

namespace Cert.KernelIdeal.Body

open Idealize.ShloMosaic Idealize.ShloMosaic.TcCoe
open Cert.KernelIdeal.Gen
open Idealize.ShloMosaic.ValueIdx

variable {F : FTy → Type} [FloatOps F] [Named F]

/-! ## Two slots -/

/-- The buffer of two slots holding `w0` in the first and `w1` in the second. -/
def two (w0 w1 : Vec F S1x256x128 .f32) : Vec F S2x256x128 .f32 :=
  fun u => if (u 0).val = 0 then w0 (ix3 0 (u 1) (u 2)) else w1 (ix3 0 (u 1) (u 2))

/-- The slots of a two-slot buffer. -/
def slot0 (x : Vec F S2x256x128 .f32) : Vec F S1x256x128 .f32 :=
  VecWindow.window x ![0, 0, 0] S1x256x128.size inb_S2x256x128_S1x256x128_0_0_0
def slot1 (x : Vec F S2x256x128 .f32) : Vec F S1x256x128 .f32 :=
  VecWindow.window x ![1, 0, 0] S1x256x128.size inb_S2x256x128_S1x256x128_1_0_0

theorem slot0_two (w0 w1 : Vec F S1x256x128 .f32) : slot0 (two w0 w1) = w0 := by
  funext u
  show two w0 w1 ((Rect.unit (s := S2x256x128) ![0, 0, 0] S1x256x128.size inb_S2x256x128_S1x256x128_0_0_0).emb u) = _
  unfold two
  rw [if_pos]
  · refine congrArg w0 (funext fun a => Fin.ext ?_)
    have h0 : (u 0).val < 1 := (u 0).isLt
    fin_cases a
    · show 0 = (u 0).val; omega
    · show 0 + 1 * (u 1).val = (u 1).val; omega
    · show 0 + 1 * (u 2).val = (u 2).val; omega
  · have h0 : (u 0).val < 1 := (u 0).isLt
    show 0 + 1 * (u 0).val = 0; omega

theorem slot1_two (w0 w1 : Vec F S1x256x128 .f32) : slot1 (two w0 w1) = w1 := by
  funext u
  show two w0 w1 ((Rect.unit (s := S2x256x128) ![1, 0, 0] S1x256x128.size inb_S2x256x128_S1x256x128_1_0_0).emb u) = _
  unfold two
  rw [if_neg]
  · refine congrArg w1 (funext fun a => Fin.ext ?_)
    have h0 : (u 0).val < 1 := (u 0).isLt
    fin_cases a
    · show 0 = (u 0).val; omega
    · show 0 + 1 * (u 1).val = (u 1).val; omega
    · show 0 + 1 * (u 2).val = (u 2).val; omega
  · show ¬ (1 + 1 * (u 0).val = 0); omega

theorem two_slots (x : Vec F S2x256x128 .f32) : two (slot0 x) (slot1 x) = x := by
  funext u
  have h0 : (u 0).val < 2 := (u 0).isLt
  unfold two
  by_cases h : (u 0).val = 0
  · rw [if_pos h]
    refine congrArg x (funext fun a => Fin.ext ?_)
    fin_cases a
    · show 0 + 1 * 0 = (u 0).val; omega
    · show 0 + 1 * (u 1).val = (u 1).val; omega
    · show 0 + 1 * (u 2).val = (u 2).val; omega
  · rw [if_neg h]
    refine congrArg x (funext fun a => Fin.ext ?_)
    fin_cases a
    · show 1 + 1 * 0 = (u 0).val; omega
    · show 0 + 1 * (u 1).val = (u 1).val; omega
    · show 0 + 1 * (u 2).val = (u 2).val; omega

/-- Two buffers with equal slots are equal. -/
theorem eq_two {x : Vec F S2x256x128 .f32} {w0 w1 : Vec F S1x256x128 .f32} (h0 : slot0 x = w0) (h1 : slot1 x = w1) : x = two w0 w1 := by
  rw [← h0, ← h1, two_slots]

theorem slot0_put0 (x : Vec F S2x256x128 .f32) (w : Vec F S1x256x128 .f32) :
    slot0 (F := F) (VecWindow.put x ![0, 0, 0] S1x256x128.size w) = w := VecWindow.window_put_same x _ _ _ w
theorem slot1_put1 (x : Vec F S2x256x128 .f32) (w : Vec F S1x256x128 .f32) :
    slot1 (F := F) (VecWindow.put x ![1, 0, 0] S1x256x128.size w) = w := VecWindow.window_put_same x _ _ _ w
theorem slot1_put0 (x : Vec F S2x256x128 .f32) (w : Vec F S1x256x128 .f32) :
    slot1 (F := F) (VecWindow.put x ![0, 0, 0] S1x256x128.size w) = slot1 x :=
  VecWindow.window_put_of_disjoint x _ _ _ _ _ w 0 (.inr (by decide))
theorem slot0_put1 (x : Vec F S2x256x128 .f32) (w : Vec F S1x256x128 .f32) :
    slot0 (F := F) (VecWindow.put x ![1, 0, 0] S1x256x128.size w) = slot0 x :=
  VecWindow.window_put_of_disjoint x _ _ _ _ _ w 0 (.inl (by decide))

/-- Storing in a slot. -/
theorem two_put0 (w0 w1 w : Vec F S1x256x128 .f32) : VecWindow.put (two w0 w1) ![0, 0, 0] S1x256x128.size w = two (F := F) w w1 :=
  eq_two (slot0_put0 _ _) ((slot1_put0 _ _).trans (slot1_two _ _))
theorem two_put1 (w0 w1 w : Vec F S1x256x128 .f32) : VecWindow.put (two w0 w1) ![1, 0, 0] S1x256x128.size w = two (F := F) w0 w :=
  eq_two ((slot0_put1 _ _).trans (slot0_two _ _)) (slot1_put1 _ _)
/-- Storing in both, one after the other. -/
theorem put0_put1 (x : Vec F S2x256x128 .f32) (w0 w1 : Vec F S1x256x128 .f32) :
    VecWindow.put (VecWindow.put x ![0, 0, 0] S1x256x128.size w0) ![1, 0, 0] S1x256x128.size w1 = two (F := F) w0 w1 :=
  eq_two ((slot0_put1 _ _).trans (slot0_put0 _ _)) (slot1_put1 _ _)

/-! ## Tiles of the blocks -/

theorem mod64 (j : ℕ) : j % 64 < 64 := Nat.mod_lt _ (by decide)

/-- Component `c`'s queries. -/
def qT0 (x1 : Vec F S1x2x256x128 .fp8e4m3) : Vec F S1x1x256x128 .fp8e4m3 :=
  VecWindow.window x1 ![0, 0, 0, 0] S1x1x256x128.size inb_S1x2x256x128_S1x1x256x128_0_0_0_0
def qT1 (x1 : Vec F S1x2x256x128 .fp8e4m3) : Vec F S1x1x256x128 .fp8e4m3 :=
  VecWindow.window x1 ![0, 1, 0, 0] S1x1x256x128.size inb_S1x2x256x128_S1x1x256x128_0_1_0_0

theorem kT_inb (c j : ℕ) (hc : c < 2) : ∀ a, (![0, c, 256 * (j % 64), 0] : Fin 4 → ℕ) a + S1x1x256x128.size a ≤ S1x2x16384x128.size a := by
  have := mod64 j
  intro a; fin_cases a
  · show 0 + 1 ≤ 1; omega
  · show c + 1 ≤ 2; omega
  · show 256 * (j % 64) + 256 ≤ 16384; omega
  · show 0 + 128 ≤ 128; omega
theorem ksT_inb (c j : ℕ) (hc : c < 2) : ∀ a, (![0, c, (j % 64), 0] : Fin 4 → ℕ) a + S1x1x1x256.size a ≤ S1x2x64x256.size a := by
  have := mod64 j
  intro a; fin_cases a
  · show 0 + 1 ≤ 1; omega
  · show c + 1 ≤ 2; omega
  · show (j % 64) + 1 ≤ 64; omega
  · show 0 + 256 ≤ 256; omega
theorem vT_inb (j : ℕ) : ∀ a, (![0, 256 * (j % 64), 0] : Fin 3 → ℕ) a + S1x256x256.size a ≤ S1x16384x256.size a := by
  have := mod64 j
  intro a; fin_cases a
  · show 0 + 1 ≤ 1; omega
  · show 256 * (j % 64) + 256 ≤ 16384; omega
  · show 0 + 256 ≤ 256; omega
theorem pT_inb (c j : ℕ) (hc : c < 2) : ∀ a, (![(j % 64), c, 0, 0] : Fin 4 → ℕ) a + S1x1x256x256.size a ≤ S64x2x256x256.size a := by
  have := mod64 j
  intro a; fin_cases a
  · show (j % 64) + 1 ≤ 64; omega
  · show c + 1 ≤ 2; omega
  · show 0 + 256 ≤ 256; omega
  · show 0 + 256 ≤ 256; omega

/-- Component `c`'s keys of tile `j`, and their scales. -/
def kT0 (x3 : Vec F S1x2x16384x128 .fp8e4m3) (j : ℕ) : Vec F S1x1x256x128 .fp8e4m3 :=
  VecWindow.window x3 ![0, 0, 256 * (j % 64), 0] S1x1x256x128.size (kT_inb 0 j (by decide))
def kT1 (x3 : Vec F S1x2x16384x128 .fp8e4m3) (j : ℕ) : Vec F S1x1x256x128 .fp8e4m3 :=
  VecWindow.window x3 ![0, 1, 256 * (j % 64), 0] S1x1x256x128.size (kT_inb 1 j (by decide))
def ksT0 (x4 : Vec F S1x2x64x256 .f32) (j : ℕ) : Vec F S1x1x1x256 .f32 :=
  VecWindow.window x4 ![0, 0, (j % 64), 0] S1x1x1x256.size (ksT_inb 0 j (by decide))
def ksT1 (x4 : Vec F S1x2x64x256 .f32) (j : ℕ) : Vec F S1x1x1x256 .f32 :=
  VecWindow.window x4 ![0, 1, (j % 64), 0] S1x1x1x256.size (ksT_inb 1 j (by decide))
/-- The values of tile `j`. -/
def vT (x5 : Vec F S1x16384x256 .fp8e4m3) (j : ℕ) : Vec F S1x256x256 .fp8e4m3 :=
  VecWindow.window x5 ![0, 256 * (j % 64), 0] S1x256x256.size (vT_inb j)
/-- The kept exponentials of tile `j`. -/
def pT0 (p : Vec F S64x2x256x256 .f32) (j : ℕ) : Vec F S1x1x256x256 .f32 :=
  VecWindow.window p ![(j % 64), 0, 0, 0] S1x1x256x256.size (pT_inb 0 j (by decide))
def pT1 (p : Vec F S64x2x256x256 .f32) (j : ℕ) : Vec F S1x1x256x256 .f32 :=
  VecWindow.window p ![(j % 64), 1, 0, 0] S1x1x256x256.size (pT_inb 1 j (by decide))
/-- Keeping the two components' exponentials of tile `j`. -/
def pPut (p : Vec F S64x2x256x256 .f32) (j : ℕ) (w0 w1 : Vec F S1x1x256x256 .f32) : Vec F S64x2x256x256 .f32 :=
  VecWindow.put (VecWindow.put p ![(j % 64), 0, 0, 0] S1x1x256x256.size w0) ![(j % 64), 1, 0, 0] S1x1x256x256.size w1

theorem pT0_pPut (p : Vec F S64x2x256x256 .f32) (j : ℕ) (w0 w1 : Vec F S1x1x256x256 .f32) : pT0 (pPut p j w0 w1) j = w0 := by
  unfold pT0 pPut
  rw [VecWindow.window_put_of_disjoint (s := S64x2x256x256) _ _ _ _ _ _ w1 1 (.inl (by show 0 + 1 ≤ 1; omega))]
  exact VecWindow.window_put_same (s := S64x2x256x256) p _ _ _ w0
theorem pT1_pPut (p : Vec F S64x2x256x256 .f32) (j : ℕ) (w0 w1 : Vec F S1x1x256x256 .f32) : pT1 (pPut p j w0 w1) j = w1 := by
  unfold pT1 pPut
  exact VecWindow.window_put_same (s := S64x2x256x256) _ _ _ _ w1
theorem pT0_pPut_ne (p : Vec F S64x2x256x256 .f32) (j j' : ℕ) (h : j % 64 ≠ j' % 64) (w0 w1 : Vec F S1x1x256x256 .f32) :
    pT0 (pPut p j w0 w1) j' = pT0 p j' := by
  unfold pT0 pPut
  have h' : j' % 64 + 1 ≤ j % 64 ∨ j % 64 + 1 ≤ j' % 64 := by omega
  rw [VecWindow.window_put_of_disjoint (s := S64x2x256x256) _ _ _ _ _ _ w1 0 h', VecWindow.window_put_of_disjoint (s := S64x2x256x256) _ _ _ _ _ _ w0 0 h']
theorem pT1_pPut_ne (p : Vec F S64x2x256x256 .f32) (j j' : ℕ) (h : j % 64 ≠ j' % 64) (w0 w1 : Vec F S1x1x256x256 .f32) :
    pT1 (pPut p j w0 w1) j' = pT1 p j' := by
  unfold pT1 pPut
  have h' : j' % 64 + 1 ≤ j % 64 ∨ j % 64 + 1 ≤ j' % 64 := by omega
  rw [VecWindow.window_put_of_disjoint (s := S64x2x256x256) _ _ _ _ _ _ w1 0 h', VecWindow.window_put_of_disjoint (s := S64x2x256x256) _ _ _ _ _ _ w0 0 h']

/-! ## The point's computation, from its blocks -/

section Point
variable (n : ℕ) (x0 : Vec F S1x1 .f32) (x1 : Vec F S1x2x256x128 .fp8e4m3) (x2 : Vec F S1x2x256 .f32) (x3 : Vec F S1x2x16384x128 .fp8e4m3)
  (x4 : Vec F S1x2x64x256 .f32) (x5 : Vec F S1x16384x256 .fp8e4m3) (x6 : Vec F S1x1x256 .f32) (x7 : Vec F S1x256 .f32) (p : Vec F S64x2x256x256 .f32)

/-- The running maxima after `k` whole tiles. -/
def mx0 : ℕ → Vec F S1x256x128 .f32
  | 0 => slot0 k0_pay23
  | k + 1 => k0_pay2 (qT0 x1) (kT0 x3 k) (ksT0 x4 k) (k0_pay21 x2) (mx0 k)
def mx1 : ℕ → Vec F S1x256x128 .f32
  | 0 => slot1 k0_pay23
  | k + 1 => k0_pay26 (k0_pay3 (qT1 x1)) (kT1 x3 k) (ksT1 x4 k) (k0_pay22 x2) (mx1 k)
/-- The maxima with the cut tile `n` taken in, lane by lane. -/
def mz0 : FVec F S256x128 .f32 := k0_pay28 (qT0 x1) (kT0 x3 n) (ksT0 x4 n) (k0_pay21 x2) (mx0 x1 x2 x3 x4 n)
def mz1 : FVec F S256x128 .f32 := k0_pay30 (qT1 x1) (kT1 x3 n) (ksT1 x4 n) (k0_pay22 x2) (mx1 x1 x2 x3 x4 n)
/-- The rows' maxima. -/
def mr0 : Vec F S1x256x128 .f32 := k0_pay32 (k0_pay29 (mz0 n x1 x2 x3 x4))
def mr1 : Vec F S1x256x128 .f32 := k0_pay33 (k0_pay31 (mz1 n x1 x2 x3 x4))
/-- The exponentials of whole tile `j`. -/
def ex0 (j : ℕ) : FVec F S1x1x256x256 .f32 := k0_pay7 (qT0 x1) (kT0 x3 j) (ksT0 x4 j) (k0_pay21 x2) (mr0 n x1 x2 x3 x4)
def ex1 (j : ℕ) : FVec F S1x1x256x256 .f32 := k0_pay12 (qT1 x1) (kT1 x3 j) (ksT1 x4 j) (k0_pay22 x2) (mr1 n x1 x2 x3 x4)
/-- The kept exponentials after `k` whole tiles, over the buffer as found. -/
def pK : ℕ → Vec F S64x2x256x256 .f32
  | 0 => p
  | k + 1 => pPut (pK k) k (ex0 n x1 x2 x3 x4 k) (ex1 n x1 x2 x3 x4 k)
/-- The running sums after `k` whole tiles. -/
def sm0 : ℕ → Vec F S1x256x128 .f32
  | 0 => slot0 k0_pay24
  | k + 1 => k0_pay10 (k0_pay8 (sm0 k)) (k0_pay9 (qT0 x1) (kT0 x3 k) (ksT0 x4 k) (k0_pay21 x2) (mr0 n x1 x2 x3 x4))
def sm1 : ℕ → Vec F S1x256x128 .f32
  | 0 => slot1 k0_pay24
  | k + 1 => k0_pay34 (k0_pay11 (qT1 x1) (kT1 x3 k) (ksT1 x4 k) (k0_pay22 x2) (mr1 n x1 x2 x3 x4)) (sm1 k)
/-- The cut tile's exponentials, kept too, -/
def exZ0 : FVec F S1x1x256x256 .f32 := k0_pay38 (k0_pay36 (qT0 x1)) (kT0 x3 n) (ksT0 x4 n) (k0_pay21 x2) (mr0 n x1 x2 x3 x4)
def exZ1 : FVec F S1x1x256x256 .f32 := k0_pay41 (qT1 x1) (kT1 x3 n) (ksT1 x4 n) (k0_pay22 x2) (mr1 n x1 x2 x3 x4)
def pZ : Vec F S64x2x256x256 .f32 := pPut (pK n x1 x2 x3 x4 p n) n (exZ0 n x1 x2 x3 x4) (exZ1 n x1 x2 x3 x4)
/-- and the sums with the cut tile taken in. -/
def smZ0 : Vec F S1x256x128 .f32 :=
  k0_pay39 (k0_pay36 (qT0 x1)) (kT0 x3 n) (ksT0 x4 n) (k0_pay21 x2) (mr0 n x1 x2 x3 x4) (sm0 n x1 x2 x3 x4 n)
def smZ1 : Vec F S1x256x128 .f32 :=
  k0_pay42 (k0_pay40 (qT1 x1) (kT1 x3 n) (ksT1 x4 n) (k0_pay22 x2) (mr1 n x1 x2 x3 x4)) (sm1 n x1 x2 x3 x4 n)
/-- The second component's weight relative to the first. -/
def rW (lam : Elt F .f32) : Vec F S1x256x128 .f32 := k0_pay44 (smZ0 n x1 x2 x3 x4) (smZ1 n x1 x2 x3 x4) lam
/-- The accumulated product after `k` tiles, the kept exponentials being `pz`. -/
def acc (lam : Elt F .f32) (pz : Vec F S64x2x256x256 .f32) : ℕ → Vec F S256x256 .f32
  | 0 => k0_pay25
  | k + 1 => k0_pay45 (rW n x1 x2 x3 x4 lam) (pT0 pz k) (pT1 pz k) (vT x5 k) (acc lam pz k)
/-- The block of the result. -/
def outB (lam : Elt F .f32) : FVec F S256x256 .bf16 :=
  k0_pay1 (k0_pay43 (smZ0 n x1 x2 x3 x4)) (acc n x1 x2 x3 x4 x5 lam (pZ n x1 x2 x3 x4 p) (n + 1)) x6 x7

end Point

end Cert.KernelIdeal.Body

end
-- ==== Proof.BodyReads.lean ====
/- What the body's loads and stores read and leave, over buffers held by their values. -/
module

public import proofs.«01_k».proof.Proof.Gen.KernelIdeal.Launch
public import proofs.«01_k».proof.Proof.BodyVals
public import Idealize.ShloMosaic.Lib.LoopRemainder
public import Idealize.ShloMosaic.Lib.Exec
public import Idealize.ShloMosaic.Lib.Tactic
public import Idealize.ShloMosaic.Lib.Pipeline.Kit
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## Loads and stores through a view -/

section Views
variable {κ : Kind} {sp : Space} {s : Shape} {e : EltTy}

theorem rd_unit (v : View sig κ sp s e) (f : v.ty.Contents (Elt F)) {off size : Fin s.rank → ℕ} (inb : ∀ a, off a + size a ≤ s.size a) :
    v.readAt (Elt F) (Rect.unit off size inb).toLoadRect f = VecWindow.window (v.read (Elt F) f) off size inb := View.readAt_unit v f inb rfl inb
theorem rd_cons (v : View sig κ sp s e) (f : v.ty.Contents (Elt F)) {off size : Fin s.rank → ℕ} (inb : ∀ a, off a + size a ≤ s.size a)
    (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

theorem rd_cov (v : View sig κ sp s e) (L : List (View.Piece (Elt F) s e)) (B : LoadRect s) :
    v.readCov L B = v.readAt (Elt F) B (v.writes (Elt F) v.junk L) := rfl

end Views

theorem win_congr {s : Shape} {e : EltTy} (x : Vec F s e) {off off' size : Fin s.rank → ℕ} (h : off = off') (inb : ∀ a, off a + size a ≤ s.size a)
    (inb' : ∀ a, off' a + size a ≤ s.size a) : VecWindow.window x off size inb = VecWindow.window x off' size inb' := by subst h; rfl
theorem win_full {s : Shape} {e : EltTy} (x : Vec F s e) {off : Fin s.rank → ℕ} (inb : ∀ a, off a + s.size a ≤ s.size a) :
    VecWindow.window x off s.size inb = x := by
  funext y
  exact congrArg x (funext fun a => Fin.ext (by
    show off a + 1 * (y a).val = (y a).val
    have := inb a; omega))
theorem put_full {s : Shape} {e : EltTy} (x : Vec F s e) {off : Fin s.rank → ℕ} (inb : ∀ a, off a + s.size a ≤ s.size a) (w : Vec F s e) :
    VecWindow.put x off s.size w = w :=
  (win_full (F := F) (VecWindow.put x off s.size w) inb).symm.trans (VecWindow.window_put_same x off s.size inb w)

/-! ## The windows the body reads -/

theorem win_slot0 (x : Vec F S2x256x128 .f32) (inb) : VecWindow.window x ![0, 0, 0] ![1, 256, 128] inb = slot0 (F := F) x := rfl
theorem win_slot1 (x : Vec F S2x256x128 .f32) (inb) : VecWindow.window x ![1, 0, 0] ![1, 256, 128] inb = slot1 (F := F) x := rfl
theorem win_q0 (x : Vec F S1x2x256x128 .fp8e4m3) (inb) : VecWindow.window x ![0, 0, 0, 0] ![1, 1, 256, 128] inb = qT0 (F := F) x := rfl
theorem win_q1 (x : Vec F S1x2x256x128 .fp8e4m3) (inb) : VecWindow.window x ![0, 1, 0, 0] ![1, 1, 256, 128] inb = qT1 (F := F) x := rfl

theorem kT0_of (x : Vec F S1x2x16384x128 .fp8e4m3) {off : Fin S1x2x16384x128.rank → ℕ} {j : ℕ} (h : off = ![0, 0, 256 * j, 0]) (hj : j < 64) (inb) :
    VecWindow.window x off S1x1x256x128.size inb = kT0 (F := F) x j := by
  unfold kT0; exact win_congr (F := F) x (h.trans (by rw [Nat.mod_eq_of_lt hj])) inb _
theorem kT1_of (x : Vec F S1x2x16384x128 .fp8e4m3) {off : Fin S1x2x16384x128.rank → ℕ} {j : ℕ} (h : off = ![0, 1, 256 * j, 0]) (hj : j < 64) (inb) :
    VecWindow.window x off S1x1x256x128.size inb = kT1 (F := F) x j := by
  unfold kT1; exact win_congr (F := F) x (h.trans (by rw [Nat.mod_eq_of_lt hj])) inb _
theorem ksT0_of (x : Vec F S1x2x64x256 .f32) {off : Fin S1x2x64x256.rank → ℕ} {j : ℕ} (h : off = ![0, 0, j, 0]) (hj : j < 64) (inb) :
    VecWindow.window x off S1x1x1x256.size inb = ksT0 (F := F) x j := by
  unfold ksT0; exact win_congr (F := F) x (h.trans (by rw [Nat.mod_eq_of_lt hj])) inb _
theorem ksT1_of (x : Vec F S1x2x64x256 .f32) {off : Fin S1x2x64x256.rank → ℕ} {j : ℕ} (h : off = ![0, 1, j, 0]) (hj : j < 64) (inb) :
    VecWindow.window x off S1x1x1x256.size inb = ksT1 (F := F) x j := by
  unfold ksT1; exact win_congr (F := F) x (h.trans (by rw [Nat.mod_eq_of_lt hj])) inb _
theorem vT_of (x : Vec F S1x16384x256 .fp8e4m3) {off : Fin S1x16384x256.rank → ℕ} {j : ℕ} (h : off = ![0, 256 * j, 0]) (hj : j < 64) (inb) :
    VecWindow.window x off S1x256x256.size inb = vT (F := F) x j := by
  unfold vT; exact win_congr (F := F) x (h.trans (by rw [Nat.mod_eq_of_lt hj])) inb _
theorem pT0_of (x : Vec F S64x2x256x256 .f32) {off : Fin S64x2x256x256.rank → ℕ} {j : ℕ} (h : off = ![j, 0, 0, 0]) (hj : j < 64) (inb) :
    VecWindow.window x off S1x1x256x256.size inb = pT0 (F := F) x j := by
  unfold pT0; exact win_congr (F := F) x (h.trans (by rw [Nat.mod_eq_of_lt hj])) inb _
theorem pT1_of (x : Vec F S64x2x256x256 .f32) {off : Fin S64x2x256x256.rank → ℕ} {j : ℕ} (h : off = ![j, 1, 0, 0]) (hj : j < 64) (inb) :
    VecWindow.window x off S1x1x256x256.size inb = pT1 (F := F) x j := by
  unfold pT1; exact win_congr (F := F) x (h.trans (by rw [Nat.mod_eq_of_lt hj])) inb _
theorem pPut_of (p : Vec F S64x2x256x256 .f32) {o0 o1 : Fin S64x2x256x256.rank → ℕ} {j : ℕ} (h0 : o0 = ![j, 0, 0, 0]) (h1 : o1 = ![j, 1, 0, 0]) (hj : j < 64)
    (w0 w1 : Vec F S1x1x256x256 .f32) :
    VecWindow.put (VecWindow.put p o0 S1x1x256x256.size w0) o1 S1x1x256x256.size w1 = pPut (F := F) p j w0 w1 := by
  subst h0; subst h1; simp only [pPut, Nat.mod_eq_of_lt hj]

theorem lt1 (i : grid0.Coords) (k : Fin (k0_t1_loop i).trips) : k.val < 64 := lt_of_lt_of_le k.isLt ((k0_t1_abs i).2.1.trans (by decide))
theorem lt3 (i : grid0.Coords) (k : Fin (k0_t3_loop i).trips) : k.val < 64 := lt_of_lt_of_le k.isLt ((k0_t3_abs i).2.1.trans (by decide))
theorem lt5 (i : grid0.Coords) (k : Fin (k0_t5_loop i).trips) : k.val < 64 := lt_of_lt_of_le k.isLt (k0_t5_abs i).2.1
theorem lti (i : grid0.Coords) : (i 1).val < 64 := (i 1).isLt

theorem win_off1 (i : grid0.Coords) (k : Fin (k0_t1_loop i).trips) (x : Vec F S1x2x16384x128 .fp8e4m3) (inb) : VecWindow.window x (k0_off1 i k) ![1, 1, 256, 128] inb = kT0 (F := F) x k :=
  kT0_of x (k0_off1_eq i k) (lt1 i k) inb
theorem win_off2 (i : grid0.Coords) (k : Fin (k0_t1_loop i).trips) (x : Vec F S1x2x64x256 .f32) (inb) : VecWindow.window x (k0_off2 i k) ![1, 1, 1, 256] inb = ksT0 (F := F) x k :=
  ksT0_of x (k0_off2_eq i k) (lt1 i k) inb
theorem win_off3 (i : grid0.Coords) (k : Fin (k0_t1_loop i).trips) (x : Vec F S1x2x16384x128 .fp8e4m3) (inb) : VecWindow.window x (k0_off3 i k) ![1, 1, 256, 128] inb = kT1 (F := F) x k :=
  kT1_of x (k0_off3_eq i k) (lt1 i k) inb
theorem win_off4 (i : grid0.Coords) (k : Fin (k0_t1_loop i).trips) (x : Vec F S1x2x64x256 .f32) (inb) : VecWindow.window x (k0_off4 i k) ![1, 1, 1, 256] inb = ksT1 (F := F) x k :=
  ksT1_of x (k0_off4_eq i k) (lt1 i k) inb
theorem win_off13 (i : grid0.Coords) (k : Fin (k0_t3_loop i).trips) (x : Vec F S1x2x16384x128 .fp8e4m3) (inb) : VecWindow.window x (k0_off13 i k) ![1, 1, 256, 128] inb = kT0 (F := F) x k :=
  kT0_of x (k0_off13_eq i k) (lt3 i k) inb
theorem win_off14 (i : grid0.Coords) (k : Fin (k0_t3_loop i).trips) (x : Vec F S1x2x64x256 .f32) (inb) : VecWindow.window x (k0_off14 i k) ![1, 1, 1, 256] inb = ksT0 (F := F) x k :=
  ksT0_of x (k0_off14_eq i k) (lt3 i k) inb
theorem win_off16 (i : grid0.Coords) (k : Fin (k0_t3_loop i).trips) (x : Vec F S1x2x16384x128 .fp8e4m3) (inb) : VecWindow.window x (k0_off16 i k) ![1, 1, 256, 128] inb = kT1 (F := F) x k :=
  kT1_of x (k0_off16_eq i k) (lt3 i k) inb
theorem win_off17 (i : grid0.Coords) (k : Fin (k0_t3_loop i).trips) (x : Vec F S1x2x64x256 .f32) (inb) : VecWindow.window x (k0_off17 i k) ![1, 1, 1, 256] inb = ksT1 (F := F) x k :=
  ksT1_of x (k0_off17_eq i k) (lt3 i k) inb
theorem win_off27 (i : grid0.Coords) (k : Fin (k0_t5_loop i).trips) (x : Vec F S64x2x256x256 .f32) (inb) : VecWindow.window x (k0_off27 i k) ![1, 1, 256, 256] inb = pT0 (F := F) x k :=
  pT0_of x (k0_off27_eq i k) (lt5 i k) inb
theorem win_off28 (i : grid0.Coords) (k : Fin (k0_t5_loop i).trips) (x : Vec F S64x2x256x256 .f32) (inb) : VecWindow.window x (k0_off28 i k) ![1, 1, 256, 256] inb = pT1 (F := F) x k :=
  pT1_of x (k0_off28_eq i k) (lt5 i k) inb
theorem win_off29 (i : grid0.Coords) (k : Fin (k0_t5_loop i).trips) (x : Vec F S1x16384x256 .fp8e4m3) (inb) : VecWindow.window x (k0_off29 i k) ![1, 256, 256] inb = vT (F := F) x k :=
  vT_of x (k0_off29_eq i k) (lt5 i k) inb
theorem win_off9 (i : grid0.Coords) (x : Vec F S1x2x16384x128 .fp8e4m3) (inb) : VecWindow.window x (k0_off9 i) ![1, 1, 256, 128] inb = kT0 (F := F) x (i 1).val :=
  kT0_of x (k0_off9_eq i) (lti i) inb
theorem win_off10 (i : grid0.Coords) (x : Vec F S1x2x64x256 .f32) (inb) : VecWindow.window x (k0_off10 i) ![1, 1, 1, 256] inb = ksT0 (F := F) x (i 1).val :=
  ksT0_of x (k0_off10_eq i) (lti i) inb
theorem win_off11 (i : grid0.Coords) (x : Vec F S1x2x16384x128 .fp8e4m3) (inb) : VecWindow.window x (k0_off11 i) ![1, 1, 256, 128] inb = kT1 (F := F) x (i 1).val :=
  kT1_of x (k0_off11_eq i) (lti i) inb
theorem win_off12 (i : grid0.Coords) (x : Vec F S1x2x64x256 .f32) (inb) : VecWindow.window x (k0_off12 i) ![1, 1, 1, 256] inb = ksT1 (F := F) x (i 1).val :=
  ksT1_of x (k0_off12_eq i) (lti i) inb
theorem put_off15 (i : grid0.Coords) (k : Fin (k0_t3_loop i).trips) (p : Vec F S64x2x256x256 .f32) (w0 w1 : Vec F S1x1x256x256 .f32) :
    VecWindow.put (VecWindow.put p (k0_off15 i k) ![1, 1, 256, 256] w0) (k0_off18 i k) ![1, 1, 256, 256] w1 = pPut (F := F) p k w0 w1 :=
  pPut_of p (k0_off15_eq i k) (k0_off18_eq i k) (lt3 i k) w0 w1
theorem put_off25 (i : grid0.Coords) (p : Vec F S64x2x256x256 .f32) (w0 w1 : Vec F S1x1x256x256 .f32) :
    VecWindow.put (VecWindow.put p (k0_off25 i) ![1, 1, 256, 256] w0) (k0_off26 i) ![1, 1, 256, 256] w1 = pPut (F := F) p (i 1).val w0 w1 :=
  pPut_of p (k0_off25_eq i) (k0_off26_eq i) (lti i) w0 w1
theorem trips_of {lb ub st : BitVec 32} {n : ℕ} (h0 : Affine.IsInt lb 0) (h1 : Affine.IsInt ub n) (h2 : Affine.IsInt st 1) : Scf.trips lb ub st = n := by
  have e0 : lb.toInt = 0 := by unfold Affine.IsInt at h0; exact h0
  have e1 : ub.toInt = n := by unfold Affine.IsInt at h1; exact h1
  have e2 : st.toInt = 1 := by unfold Affine.IsInt at h2; exact h2
  unfold Scf.trips; rw [e0, e1, e2]; simp
theorem trips1 (i : grid0.Coords) : (k0_t1_loop i).trips = (i 1).val := by
  have h_c0_i32_17 : Affine.IsInt 0#32 (0) := Affine.ofNat _ (by omega)
  have r_i1 : (i 1).val < 64 := (i 1).isLt
  have h_arg1 : Affine.IsInt (BitVec.ofNat 32 (i 1).val) (((i 1).val : Int)) := Affine.ofNat _ (by omega)
  have h_v28 : Affine.IsInt _ (((i 1).val : Int)) := Affine.subi h_arg1 h_c0_i32_17 (by omega)
  have h_c1_i32_18 : Affine.IsInt 1#32 (1) := Affine.ofNat _ (by omega)
  have h_v30 : Affine.IsInt _ (((i 1).val : Int)) := Affine.divsi h_v28 h_c1_i32_18 (by omega)
  have h_v31 : Affine.IsInt _ (((i 1).val : Int)) := Affine.muli h_v30 h_c1_i32_18 (by omega)
  have h_v32 : Affine.IsInt _ (((i 1).val : Int)) := Affine.addi h_c0_i32_17 h_v31 (by omega)
  have h_c1_i32_19 : Affine.IsInt 1#32 (1) := Affine.ofNat _ (by omega)
  exact trips_of h_c0_i32_17 h_v32 h_c1_i32_19
theorem trips3 (i : grid0.Coords) : (k0_t3_loop i).trips = (i 1).val := by
  have h_c0_i32_81 : Affine.IsInt 0#32 (0) := Affine.ofNat _ (by omega)
  have r_i1 : (i 1).val < 64 := (i 1).isLt
  have h_arg1 : Affine.IsInt (BitVec.ofNat 32 (i 1).val) (((i 1).val : Int)) := Affine.ofNat _ (by omega)
  have h_v117 : Affine.IsInt _ (((i 1).val : Int)) := Affine.subi h_arg1 h_c0_i32_81 (by omega)
  have h_c1_i32_82 : Affine.IsInt 1#32 (1) := Affine.ofNat _ (by omega)
  have h_v119 : Affine.IsInt _ (((i 1).val : Int)) := Affine.divsi h_v117 h_c1_i32_82 (by omega)
  have h_v120 : Affine.IsInt _ (((i 1).val : Int)) := Affine.muli h_v119 h_c1_i32_82 (by omega)
  have h_v121 : Affine.IsInt _ (((i 1).val : Int)) := Affine.addi h_c0_i32_81 h_v120 (by omega)
  have h_c1_i32_83 : Affine.IsInt 1#32 (1) := Affine.ofNat _ (by omega)
  exact trips_of h_c0_i32_81 h_v121 h_c1_i32_83
theorem trips5 (i : grid0.Coords) : (k0_t5_loop i).trips = (i 1).val + 1 := by
  have h_c0_i32_157 : Affine.IsInt 0#32 (0) := Affine.ofNat _ (by omega)
  have r_i1 : (i 1).val < 64 := (i 1).isLt
  have h_arg1 : Affine.IsInt (BitVec.ofNat 32 (i 1).val) (((i 1).val : Int)) := Affine.ofNat _ (by omega)
  have h_c1_i32 : Affine.IsInt 1#32 (1) := Affine.ofNat _ (by omega)
  have h_v0 : Affine.IsInt _ (((i 1).val : Int) + 1) := Affine.addi h_arg1 h_c1_i32 (by omega)
  have h_v223 : Affine.IsInt _ (((i 1).val : Int) + 1) := Affine.subi h_v0 h_c0_i32_157 (by omega)
  have h_c1_i32_158 : Affine.IsInt 1#32 (1) := Affine.ofNat _ (by omega)
  have h_v225 : Affine.IsInt _ (((i 1).val : Int) + 1) := Affine.divsi h_v223 h_c1_i32_158 (by omega)
  have h_v226 : Affine.IsInt _ (((i 1).val : Int) + 1) := Affine.muli h_v225 h_c1_i32_158 (by omega)
  have h_v227 : Affine.IsInt _ (((i 1).val : Int) + 1) := Affine.addi h_c0_i32_157 h_v226 (by omega)
  have h_c1_i32_159 : Affine.IsInt 1#32 (1) := Affine.ofNat _ (by omega)
  exact trips_of h_c0_i32_157 h_v227 h_c1_i32_159

end Cert.KernelIdeal.Body

end
-- ==== Proof.BodyTrips.lean ====
/- Trips of the kernel's loops, by values: what one trip leaves in the buffers, as a function of what it finds. -/
module

public import proofs.«01_k».proof.Proof.BodyReads
public import proofs.«01_k».proof.Proof.Gen.KernelIdeal.Launch
public import Idealize.ShloMosaic.Lib.LoopRemainder
public import Idealize.ShloMosaic.Lib.Exec
public import Idealize.ShloMosaic.Lib.Tactic
public import Idealize.ShloMosaic.Lib.Pipeline.Kit
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (arg2 : Memref sig .tc .smem S1x1 .f32) (harg2 : arg2.IsWhole) (arg3 : Memref sig .tc .vmem S1x2x256x128 .fp8e4m3) (harg3 : arg3.IsWhole) (arg4 : Memref sig .tc .vmem S1x2x256 .f32) (harg4 : arg4.IsWhole) (arg5 : Memref sig .tc .vmem S1x2x16384x128 .fp8e4m3) (harg5 : arg5.IsWhole) (arg6 : Memref sig .tc .vmem S1x2x64x256 .f32) (harg6 : arg6.IsWhole) (arg7 : Memref sig .tc .vmem S1x16384x256 .fp8e4m3) (harg7 : arg7.IsWhole) (arg8 : Memref sig .tc .vmem S1x1x256 .f32) (harg8 : arg8.IsWhole) (arg9 : Memref sig .tc .vmem S1x256 .f32) (harg9 : arg9.IsWhole) (arg10 : Memref sig .tc .vmem S256x256 .bf16) (harg10 : arg10.IsWhole) (arg11 : Memref sig .tc .vmem S64x2x256x256 .f32) (harg11 : arg11.IsWhole) (arg12 : Memref sig .tc .vmem S2x256x128 .f32) (harg12 : arg12.IsWhole) (arg13 : Memref sig .tc .vmem S2x256x128 .f32) (harg13 : arg13.IsWhole) (arg14 : Memref sig .tc .vmem S2x256x128 .f32) (harg14 : arg14.IsWhole) (arg15 : Memref sig .tc .vmem S256x256 .f32) (harg15 : arg15.IsWhole)
variable (𝒱 : Variants) (c : Dev nD) (bd : Option 𝒱.V) (E : Set ℕ) (i : grid0.Coords)

/-- One trip over the maxima. -/
theorem trip1 (arg1 c0 v28 : BitVec 32) (k : Fin (k0_t1_loop i).trips) (x1 : Vec F S1x2x256x128 .fp8e4m3) (x3 : Vec F S1x2x16384x128 .fp8e4m3) (x4 : Vec F S1x2x64x256 .f32) (x12 x13 : Vec F S2x256x128 .f32) :
    (iprop((arg3.view.loc (c : Thread nD τ) ↦[arg3.view.set]{fullShare} arg3.view.rep x1) ∗ (arg5.view.loc (c : Thread nD τ) ↦[arg5.view.set]{fullShare} arg5.view.rep x3) ∗ (arg6.view.loc (c : Thread nD τ) ↦[arg6.view.set]{fullShare} arg6.view.rep x4) ∗ (arg12.view.loc (c : Thread nD τ) ↦[arg12.view.set]{fullShare} arg12.view.rep x12) ∗ (arg13.view.loc (c : Thread nD τ) ↦[arg13.view.set]{fullShare} arg13.view.rep x13)) : sProp 𝕄)
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg1 c0 v28 k PUnit.unit)
          (fun _ => iprop((arg3.view.loc (c : Thread nD τ) ↦[arg3.view.set]{fullShare} arg3.view.rep x1) ∗ (arg5.view.loc (c : Thread nD τ) ↦[arg5.view.set]{fullShare} arg5.view.rep x3) ∗ (arg6.view.loc (c : Thread nD τ) ↦[arg6.view.set]{fullShare} arg6.view.rep x4) ∗ (arg12.view.loc (c : Thread nD τ) ↦[arg12.view.set]{fullShare} arg12.view.rep x12) ∗ (arg13.view.loc (c : Thread nD τ) ↦[arg13.view.set]{fullShare} arg13.view.rep (two (k0_pay2 (qT0 x1) (kT0 x3 k) (ksT0 x4 k) (slot0 x12) (slot0 x13)) (k0_pay26 (k0_pay3 (qT1 x1)) (kT1 x3 k) (ksT1 x4 k) (slot1 x12) (slot1 x13)))))) := by
  unfold k0_t1_body
  iintro ⟨H3, H5, H6, H12, H13⟩
  sl_exec
  sl_step
  isplitl [H3]
  · iexact H3
  isplitl [H5]
  · iexact H5
  isplitl [H6]
  · iexact H6
  isplitl [H12]
  · iexact H12
  · iapply (pointsTo_rep_of_read c arg13 _ _ _ ?_) $$ [H13]; swap; iexact H13
    delta trip1.sl.r trip1.sl.v302
    repeat (first | rw [rd_unit] | rw [rd_cons] | rw [View.read_rep] | rw [View.writes_nil])
    repeat (first | rw [put0_put1] | rw [slot1_put0] | rw [win_slot0] | rw [win_slot1] | rw [win_q0] | rw [win_q1] | rw [win_off1] | rw [win_off2] | rw [win_off3] | rw [win_off4])

/-- One trip over the exponentials. -/
theorem trip3 (arg1 : BitVec 32) (v95 : FVec F S256x128 .f32) (k : Fin (k0_t3_loop i).trips) (x1 : Vec F S1x2x256x128 .fp8e4m3) (x3 : Vec F S1x2x16384x128 .fp8e4m3) (x4 : Vec F S1x2x64x256 .f32) (p : Vec F S64x2x256x256 .f32) (x12 x13 x14 : Vec F S2x256x128 .f32) :
    (iprop((arg3.view.loc (c : Thread nD τ) ↦[arg3.view.set]{fullShare} arg3.view.rep x1) ∗ (arg5.view.loc (c : Thread nD τ) ↦[arg5.view.set]{fullShare} arg5.view.rep x3) ∗ (arg6.view.loc (c : Thread nD τ) ↦[arg6.view.set]{fullShare} arg6.view.rep x4) ∗ (arg11.view.loc (c : Thread nD τ) ↦[arg11.view.set]{fullShare} arg11.view.rep p) ∗ (arg12.view.loc (c : Thread nD τ) ↦[arg12.view.set]{fullShare} arg12.view.rep x12) ∗ (arg13.view.loc (c : Thread nD τ) ↦[arg13.view.set]{fullShare} arg13.view.rep x13) ∗ (arg14.view.loc (c : Thread nD τ) ↦[arg14.view.set]{fullShare} arg14.view.rep x14)) : sProp 𝕄)
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v95 k PUnit.unit)
          (fun _ => iprop((arg3.view.loc (c : Thread nD τ) ↦[arg3.view.set]{fullShare} arg3.view.rep x1) ∗ (arg5.view.loc (c : Thread nD τ) ↦[arg5.view.set]{fullShare} arg5.view.rep x3) ∗ (arg6.view.loc (c : Thread nD τ) ↦[arg6.view.set]{fullShare} arg6.view.rep x4) ∗ (arg11.view.loc (c : Thread nD τ) ↦[arg11.view.set]{fullShare} arg11.view.rep (pPut p k (k0_pay7 (qT0 x1) (kT0 x3 k) (ksT0 x4 k) (slot0 x12) (slot0 x13)) (k0_pay12 (qT1 x1) (kT1 x3 k) (ksT1 x4 k) (slot1 x12) (slot1 x13)))) ∗ (arg12.view.loc (c : Thread nD τ) ↦[arg12.view.set]{fullShare} arg12.view.rep x12) ∗ (arg13.view.loc (c : Thread nD τ) ↦[arg13.view.set]{fullShare} arg13.view.rep x13) ∗ (arg14.view.loc (c : Thread nD τ) ↦[arg14.view.set]{fullShare} arg14.view.rep (two (k0_pay10 (k0_pay8 (slot0 x14)) (k0_pay9 (qT0 x1) (kT0 x3 k) (ksT0 x4 k) (slot0 x12) (slot0 x13))) (k0_pay34 (k0_pay11 (qT1 x1) (kT1 x3 k) (ksT1 x4 k) (slot1 x12) (slot1 x13)) (slot1 x14)))))) := by
  unfold k0_t3_body
  iintro ⟨H3, H5, H6, H11, H12, H13, H14⟩
  sl_exec
  sl_step
  isplitl [H3]
  · iexact H3
  isplitl [H5]
  · iexact H5
  isplitl [H6]
  · iexact H6
  isplitl [H11]
  · iapply (pointsTo_rep_of_read c arg11 _ _ _ ?_) $$ [H11]; swap; iexact H11
    repeat (first | rw [rd_unit] | rw [rd_cons] | rw [View.read_rep] | rw [View.writes_nil])
    repeat (first | rw [put_off15] | rw [win_slot0] | rw [win_slot1] | rw [win_q0] | rw [win_q1] | rw [win_off13] | rw [win_off14] | rw [win_off16] | rw [win_off17])
  isplitl [H12]
  · iexact H12
  isplitl [H13]
  · iexact H13
  · iapply (pointsTo_rep_of_read c arg14 _ _ _ ?_) $$ [H14]; swap; iexact H14
    delta trip3.sl.r trip3.sl.r_1 trip3.sl.r_2 trip3.sl.v320
    repeat (first | rw [rd_unit] | rw [rd_cons] | rw [View.read_rep] | rw [View.writes_nil])
    repeat (first | rw [put0_put1] | rw [slot1_put0] | rw [win_slot0] | rw [win_slot1] | rw [win_q0] | rw [win_q1] | rw [win_off13] | rw [win_off14] | rw [win_off16] | rw [win_off17])

/-- One trip over the values. -/
theorem trip5 (v0 : BitVec 32) (v192 : FVec F S256x256 .f32) (k : Fin (k0_t5_loop i).trips) (x5 : Vec F S1x16384x256 .fp8e4m3) (p : Vec F S64x2x256x256 .f32) (x13 : Vec F S2x256x128 .f32) (x15 : Vec F S256x256 .f32) :
    (iprop((arg7.view.loc (c : Thread nD τ) ↦[arg7.view.set]{fullShare} arg7.view.rep x5) ∗ (arg11.view.loc (c : Thread nD τ) ↦[arg11.view.set]{fullShare} arg11.view.rep p) ∗ (arg13.view.loc (c : Thread nD τ) ↦[arg13.view.set]{fullShare} arg13.view.rep x13) ∗ (arg15.view.loc (c : Thread nD τ) ↦[arg15.view.set]{fullShare} arg15.view.rep x15)) : sProp 𝕄)
      ⊢ wp frame (wpE (defs₀ (F := F)) 𝒱 (c : Thread nD τ) bd) E (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 v0 v192 k PUnit.unit)
          (fun _ => iprop((arg7.view.loc (c : Thread nD τ) ↦[arg7.view.set]{fullShare} arg7.view.rep x5) ∗ (arg11.view.loc (c : Thread nD τ) ↦[arg11.view.set]{fullShare} arg11.view.rep p) ∗ (arg13.view.loc (c : Thread nD τ) ↦[arg13.view.set]{fullShare} arg13.view.rep x13) ∗ (arg15.view.loc (c : Thread nD τ) ↦[arg15.view.set]{fullShare} arg15.view.rep (k0_pay45 (slot0 x13) (pT0 p k) (pT1 p k) (vT x5 k) x15)))) := by
  unfold k0_t5_body
  iintro ⟨H7, H11, H13, H15⟩
  sl_exec
  sl_step
  isplitl [H7]
  · iexact H7
  isplitl [H11]
  · iexact H11
  isplitl [H13]
  · iexact H13
  · iapply (pointsTo_rep_of_read c arg15 _ _ _ ?_) $$ [H15]; swap; iexact H15
    repeat (first | rw [rd_unit] | rw [rd_cons] | rw [View.read_rep] | rw [View.writes_nil])
    rw [put_full (F := F) (s := S256x256) x15 inb_S256x256_S256x256_0_0, win_full (F := F) (s := S256x256) x15 inb_S256x256_S256x256_0_0]
    repeat (first | rw [win_slot0] | rw [win_off27] | rw [win_off28] | rw [win_off29])

theorem trip1_two (arg1 c0 v28 : BitVec 32) (k : Fin (k0_t1_loop i).trips) (x1 : Vec F S1x2x256x128 .fp8e4m3) (x3 : Vec F S1x2x16384x128 .fp8e4m3) (x4 : Vec F S1x2x64x256 .f32) (a b m0 m1 : Vec F S1x256x128 .f32) :
    (iprop((arg3.view.loc (c : Thread nD τ) ↦[arg3.view.set]{fullShare} arg3.view.rep x1) ∗ (arg5.view.loc (c : Thread nD τ) ↦[arg5.view.set]{fullShare} arg5.view.rep x3) ∗ (arg6.view.loc (c : Thread nD τ) ↦[arg6.view.set]{fullShare} arg6.view.rep x4) ∗ (arg12.view.loc (c : Thread nD τ) ↦[arg12.view.set]{fullShare} arg12.view.rep (two a b)) ∗ (arg13.view.loc (c : Thread nD τ) ↦[arg13.view.set]{fullShare} arg13.view.rep (two m0 m1))) : sProp 𝕄)
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg1 c0 v28 k PUnit.unit)
          (fun _ => iprop((arg3.view.loc (c : Thread nD τ) ↦[arg3.view.set]{fullShare} arg3.view.rep x1) ∗ (arg5.view.loc (c : Thread nD τ) ↦[arg5.view.set]{fullShare} arg5.view.rep x3) ∗ (arg6.view.loc (c : Thread nD τ) ↦[arg6.view.set]{fullShare} arg6.view.rep x4) ∗ (arg12.view.loc (c : Thread nD τ) ↦[arg12.view.set]{fullShare} arg12.view.rep (two a b)) ∗ (arg13.view.loc (c : Thread nD τ) ↦[arg13.view.set]{fullShare} arg13.view.rep (two (k0_pay2 (qT0 x1) (kT0 x3 k) (ksT0 x4 k) a m0) (k0_pay26 (k0_pay3 (qT1 x1)) (kT1 x3 k) (ksT1 x4 k) b m1))))) := by
  have h := trip1 arg2 harg2 arg3 harg3 arg4 harg4 arg5 harg5 arg6 harg6 arg7 harg7 arg8 harg8 arg9 harg9 arg10 harg10 arg11 harg11 arg12 harg12 arg13 harg13 arg14 harg14 arg15 harg15 𝒱 c bd E i arg1 c0 v28 k x1 x3 x4 (two a b) (two m0 m1)
  rw [slot0_two, slot1_two, slot0_two, slot1_two] at h
  exact h

theorem trip3_two (arg1 : BitVec 32) (v95 : FVec F S256x128 .f32) (k : Fin (k0_t3_loop i).trips) (x1 : Vec F S1x2x256x128 .fp8e4m3) (x3 : Vec F S1x2x16384x128 .fp8e4m3) (x4 : Vec F S1x2x64x256 .f32) (p : Vec F S64x2x256x256 .f32) (a b m0 m1 s0 s1 : Vec F S1x256x128 .f32) :
    (iprop((arg3.view.loc (c : Thread nD τ) ↦[arg3.view.set]{fullShare} arg3.view.rep x1) ∗ (arg5.view.loc (c : Thread nD τ) ↦[arg5.view.set]{fullShare} arg5.view.rep x3) ∗ (arg6.view.loc (c : Thread nD τ) ↦[arg6.view.set]{fullShare} arg6.view.rep x4) ∗ (arg11.view.loc (c : Thread nD τ) ↦[arg11.view.set]{fullShare} arg11.view.rep p) ∗ (arg12.view.loc (c : Thread nD τ) ↦[arg12.view.set]{fullShare} arg12.view.rep (two a b)) ∗ (arg13.view.loc (c : Thread nD τ) ↦[arg13.view.set]{fullShare} arg13.view.rep (two m0 m1)) ∗ (arg14.view.loc (c : Thread nD τ) ↦[arg14.view.set]{fullShare} arg14.view.rep (two s0 s1))) : sProp 𝕄)
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v95 k PUnit.unit)
          (fun _ => iprop((arg3.view.loc (c : Thread nD τ) ↦[arg3.view.set]{fullShare} arg3.view.rep x1) ∗ (arg5.view.loc (c : Thread nD τ) ↦[arg5.view.set]{fullShare} arg5.view.rep x3) ∗ (arg6.view.loc (c : Thread nD τ) ↦[arg6.view.set]{fullShare} arg6.view.rep x4) ∗ (arg11.view.loc (c : Thread nD τ) ↦[arg11.view.set]{fullShare} arg11.view.rep (pPut p k (k0_pay7 (qT0 x1) (kT0 x3 k) (ksT0 x4 k) a m0) (k0_pay12 (qT1 x1) (kT1 x3 k) (ksT1 x4 k) b m1))) ∗ (arg12.view.loc (c : Thread nD τ) ↦[arg12.view.set]{fullShare} arg12.view.rep (two a b)) ∗ (arg13.view.loc (c : Thread nD τ) ↦[arg13.view.set]{fullShare} arg13.view.rep (two m0 m1)) ∗ (arg14.view.loc (c : Thread nD τ) ↦[arg14.view.set]{fullShare} arg14.view.rep (two (k0_pay10 (k0_pay8 s0) (k0_pay9 (qT0 x1) (kT0 x3 k) (ksT0 x4 k) a m0)) (k0_pay34 (k0_pay11 (qT1 x1) (kT1 x3 k) (ksT1 x4 k) b m1) s1))))) := by
  have h := trip3 arg2 harg2 arg3 harg3 arg4 harg4 arg5 harg5 arg6 harg6 arg7 harg7 arg8 harg8 arg9 harg9 arg10 harg10 arg11 harg11 arg12 harg12 arg13 harg13 arg14 harg14 arg15 harg15 𝒱 c bd E i arg1 v95 k x1 x3 x4 p (two a b) (two m0 m1) (two s0 s1)
  rw [slot0_two, slot1_two, slot0_two, slot1_two, slot0_two, slot1_two] at h
  exact h

theorem trip5_two (v0 : BitVec 32) (v192 : FVec F S256x256 .f32) (k : Fin (k0_t5_loop i).trips) (x5 : Vec F S1x16384x256 .fp8e4m3) (p : Vec F S64x2x256x256 .f32) (r0 r1 : Vec F S1x256x128 .f32) (x15 : Vec F S256x256 .f32) :
    (iprop((arg7.view.loc (c : Thread nD τ) ↦[arg7.view.set]{fullShare} arg7.view.rep x5) ∗ (arg11.view.loc (c : Thread nD τ) ↦[arg11.view.set]{fullShare} arg11.view.rep p) ∗ (arg13.view.loc (c : Thread nD τ) ↦[arg13.view.set]{fullShare} arg13.view.rep (two r0 r1)) ∗ (arg15.view.loc (c : Thread nD τ) ↦[arg15.view.set]{fullShare} arg15.view.rep x15)) : sProp 𝕄)
      ⊢ wp frame (wpE (defs₀ (F := F)) 𝒱 (c : Thread nD τ) bd) E (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 v0 v192 k PUnit.unit)
          (fun _ => iprop((arg7.view.loc (c : Thread nD τ) ↦[arg7.view.set]{fullShare} arg7.view.rep x5) ∗ (arg11.view.loc (c : Thread nD τ) ↦[arg11.view.set]{fullShare} arg11.view.rep p) ∗ (arg13.view.loc (c : Thread nD τ) ↦[arg13.view.set]{fullShare} arg13.view.rep (two r0 r1)) ∗ (arg15.view.loc (c : Thread nD τ) ↦[arg15.view.set]{fullShare} arg15.view.rep (k0_pay45 r0 (pT0 p k) (pT1 p k) (vT x5 k) x15)))) := by
  have h := trip5 arg2 harg2 arg3 harg3 arg4 harg4 arg5 harg5 arg6 harg6 arg7 harg7 arg8 harg8 arg9 harg9 arg10 harg10 arg11 harg11 arg12 harg12 arg13 harg13 arg14 harg14 arg15 harg15 𝒱 c bd E i v0 v192 k x5 p (two r0 r1) x15
  rw [slot0_two] at h
  exact h

end Cert.KernelIdeal.Body

end
-- ==== Proof.BodyRun.lean ====
/- The body run by values: from the blocks of the inputs, whatever the scratch holds, it leaves the block of the result. -/
module

public import proofs.«01_k».proof.Proof.BodyTrips
public import Idealize.ShloMosaic.Lib.Tactic.Stretches
public import proofs.«01_k».proof.Proof.Gen.KernelIdeal.Launch
public import Idealize.ShloMosaic.Lib.LoopRemainder
public import Idealize.ShloMosaic.Lib.Exec
public import Idealize.ShloMosaic.Lib.Tactic
public import Idealize.ShloMosaic.Lib.Pipeline.Kit
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (arg2 : Memref sig .tc .smem S1x1 .f32) (harg2 : arg2.IsWhole) (arg3 : Memref sig .tc .vmem S1x2x256x128 .fp8e4m3) (harg3 : arg3.IsWhole) (arg4 : Memref sig .tc .vmem S1x2x256 .f32) (harg4 : arg4.IsWhole) (arg5 : Memref sig .tc .vmem S1x2x16384x128 .fp8e4m3) (harg5 : arg5.IsWhole) (arg6 : Memref sig .tc .vmem S1x2x64x256 .f32) (harg6 : arg6.IsWhole) (arg7 : Memref sig .tc .vmem S1x16384x256 .fp8e4m3) (harg7 : arg7.IsWhole) (arg8 : Memref sig .tc .vmem S1x1x256 .f32) (harg8 : arg8.IsWhole) (arg9 : Memref sig .tc .vmem S1x256 .f32) (harg9 : arg9.IsWhole) (arg10 : Memref sig .tc .vmem S256x256 .bf16) (harg10 : arg10.IsWhole) (arg11 : Memref sig .tc .vmem S64x2x256x256 .f32) (harg11 : arg11.IsWhole) (arg12 : Memref sig .tc .vmem S2x256x128 .f32) (harg12 : arg12.IsWhole) (arg13 : Memref sig .tc .vmem S2x256x128 .f32) (harg13 : arg13.IsWhole) (arg14 : Memref sig .tc .vmem S2x256x128 .f32) (harg14 : arg14.IsWhole) (arg15 : Memref sig .tc .vmem S256x256 .f32) (harg15 : arg15.IsWhole)
variable (c : Dev nD) (i : grid0.Coords)

/-- The gate's scalar, as the body reads it. -/
def k0_lam (x0 : Vec F S1x1 .f32) : Elt F .f32 := x0 (Idealize.ShloMosaic.ValueIdx.ix2 0 0)

theorem lam_first (x0 : Vec F S1x1 .f32) (j : S1x1.Idx) : x0 j = k0_lam x0 := by
  refine congrArg x0 (funext fun a => Fin.ext ?_)
  have h0 : (j 0).val < 1 := (j 0).isLt
  have h1 : (j 1).val < 1 := (j 1).isLt
  fin_cases a
  · show (j 0).val = 0; omega
  · show (j 1).val = 0; omega

set_option maxHeartbeats 400000 in
theorem body_run (x0 : Vec F S1x1 .f32) (x1 : Vec F S1x2x256x128 .fp8e4m3) (x2 : Vec F S1x2x256 .f32) (x3 : Vec F S1x2x16384x128 .fp8e4m3) (x4 : Vec F S1x2x64x256 .f32) (x5 : Vec F S1x16384x256 .fp8e4m3) (x6 : Vec F S1x1x256 .f32) (x7 : Vec F S1x256 .f32)
    (d10 : Vec F S256x256 .bf16) (p : Vec F S64x2x256x256 .f32) (d12 d13 d14 : Vec F S2x256x128 .f32) (d15 : Vec F S256x256 .f32) (E : Set ℕ) (K : PUnit → sProp 𝕄) :
    iprop((arg2.view.loc (c : Thread nD τ) ↦[arg2.view.set]{fullShare} arg2.view.rep x0) ∗ (arg3.view.loc (c : Thread nD τ) ↦[arg3.view.set]{fullShare} arg3.view.rep x1) ∗ (arg4.view.loc (c : Thread nD τ) ↦[arg4.view.set]{fullShare} arg4.view.rep x2) ∗ (arg5.view.loc (c : Thread nD τ) ↦[arg5.view.set]{fullShare} arg5.view.rep x3) ∗ (arg6.view.loc (c : Thread nD τ) ↦[arg6.view.set]{fullShare} arg6.view.rep x4) ∗ (arg7.view.loc (c : Thread nD τ) ↦[arg7.view.set]{fullShare} arg7.view.rep x5) ∗ (arg8.view.loc (c : Thread nD τ) ↦[arg8.view.set]{fullShare} arg8.view.rep x6) ∗ (arg9.view.loc (c : Thread nD τ) ↦[arg9.view.set]{fullShare} arg9.view.rep x7) ∗ (arg10.view.loc (c : Thread nD τ) ↦[arg10.view.set]{fullShare} arg10.view.rep d10) ∗ (arg11.view.loc (c : Thread nD τ) ↦[arg11.view.set]{fullShare} arg11.view.rep p) ∗ (arg12.view.loc (c : Thread nD τ) ↦[arg12.view.set]{fullShare} arg12.view.rep d12) ∗ (arg13.view.loc (c : Thread nD τ) ↦[arg13.view.set]{fullShare} arg13.view.rep d13) ∗ (arg14.view.loc (c : Thread nD τ) ↦[arg14.view.set]{fullShare} arg14.view.rep d14) ∗ (arg15.view.loc (c : Thread nD τ) ↦[arg15.view.set]{fullShare} arg15.view.rep d15) ∗ (iprop((arg2.view.loc (c : Thread nD τ) ↦[arg2.view.set]{fullShare} arg2.view.rep x0) ∗ (arg3.view.loc (c : Thread nD τ) ↦[arg3.view.set]{fullShare} arg3.view.rep x1) ∗ (arg4.view.loc (c : Thread nD τ) ↦[arg4.view.set]{fullShare} arg4.view.rep x2) ∗ (arg5.view.loc (c : Thread nD τ) ↦[arg5.view.set]{fullShare} arg5.view.rep x3) ∗ (arg6.view.loc (c : Thread nD τ) ↦[arg6.view.set]{fullShare} arg6.view.rep x4) ∗ (arg7.view.loc (c : Thread nD τ) ↦[arg7.view.set]{fullShare} arg7.view.rep x5) ∗ (arg8.view.loc (c : Thread nD τ) ↦[arg8.view.set]{fullShare} arg8.view.rep x6) ∗ (arg9.view.loc (c : Thread nD τ) ↦[arg9.view.set]{fullShare} arg9.view.rep x7) ∗ (arg10.view.loc (c : Thread nD τ) ↦[arg10.view.set]{fullShare} arg10.view.rep (outB (i 1).val x1 x2 x3 x4 x5 x6 x7 p (k0_lam x0))) ∗ (∃ d, (arg11.view.loc (c : Thread nD τ) ↦[arg11.view.set]{fullShare} arg11.view.rep d)) ∗ (∃ d, (arg12.view.loc (c : Thread nD τ) ↦[arg12.view.set]{fullShare} arg12.view.rep d)) ∗ (∃ d, (arg13.view.loc (c : Thread nD τ) ↦[arg13.view.set]{fullShare} arg13.view.rep d)) ∗ (∃ d, (arg14.view.loc (c : Thread nD τ) ↦[arg14.view.set]{fullShare} arg14.view.rep d)) ∗ (∃ d, (arg15.view.loc (c : Thread nD τ) ↦[arg15.view.set]{fullShare} arg15.view.rep d))) -∗ K ⟨⟩))
      ⊢ wp frame (wpE (defs₀ (F := F)) Variants.none c none) E (cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_diff_attn_eq_skeleton]; unfold cc0_diff_attn_skel
  simp only [k0_part7_eq_skeleton, k0_part8_eq_skeleton, k0_part9_eq_skeleton, k0_part10_eq_skeleton, k0_part11_eq_skeleton, k0_part12_eq_skeleton, k0_part13_eq_skeleton]
  iintro ⟨H2, H3, H4, H5, H6, H7, H8, H9, H10, H11, H12, H13, H14, H15, HK⟩
  sl_exec
  ihave G : (arg12.view.loc (c : Thread nD τ) ↦[arg12.view.set]{fullShare} arg12.view.rep (two (k0_pay21 x2) (k0_pay22 x2)) : sProp 𝕄) $$ [H12]
  · iapply (pointsTo_rep_of_read c arg12 _ _ _ ?_) $$ [H12]; swap; iexact H12
    sl_unfold_run_names
    repeat (first | rw [rd_cov] | rw [rd_unit] | rw [rd_cons] | rw [View.read_rep] | rw [View.writes_nil])
    repeat (first | rw [put0_put1])
    rw [win_full (F := F) (s := S1x2x256) x2 inb_S1x2x256_S1x2x256_0_0_0]
  irename G => H12
  ihave G : (arg13.view.loc (c : Thread nD τ) ↦[arg13.view.set]{fullShare} arg13.view.rep (two (mx0 x1 x2 x3 x4 0) (mx1 x1 x2 x3 x4 0)) : sProp 𝕄) $$ [H13]
  · iapply (pointsTo_rep_of_read c arg13 _ _ _ ?_) $$ [H13]; swap; iexact H13
    sl_unfold_run_names
    repeat (first | rw [rd_cov] | rw [rd_unit] | rw [rd_cons] | rw [View.read_rep] | rw [View.writes_nil])
    rw [put_full (F := F) (s := S2x256x128) _ inb_S2x256x128_S2x256x128_0_0_0]; exact (two_slots _).symm
  irename G => H13
  sl_for (fun k (_ : Unit) => (iprop((arg3.view.loc (c : Thread nD τ) ↦[arg3.view.set]{fullShare} arg3.view.rep x1) ∗ (arg5.view.loc (c : Thread nD τ) ↦[arg5.view.set]{fullShare} arg5.view.rep x3) ∗ (arg6.view.loc (c : Thread nD τ) ↦[arg6.view.set]{fullShare} arg6.view.rep x4) ∗ (arg12.view.loc (c : Thread nD τ) ↦[arg12.view.set]{fullShare} arg12.view.rep (two (k0_pay21 x2) (k0_pay22 x2))) ∗ (arg13.view.loc (c : Thread nD τ) ↦[arg13.view.set]{fullShare} arg13.view.rep (two (mx0 x1 x2 x3 x4 k) (mx1 x1 x2 x3 x4 k)))) : sProp 𝕄)) $$ [H3 H5 H6 H12 H13]
  case region =>
    intro k a; exact trip1_two arg2 harg2 arg3 harg3 arg4 harg4 arg5 harg5 arg6 harg6 arg7 harg7 arg8 harg8 arg9 harg9 arg10 harg10 arg11 harg11 arg12 harg12 arg13 harg13 arg14 harg14 arg15 harg15 Variants.none c none E i _ _ _ k x1 x3 x4 _ _ _ _
  · isplitl [H3]; · iexact H3
    isplitl [H5]; · iexact H5
    isplitl [H6]; · iexact H6
    isplitl [H12]; · iexact H12
    iexact H13
  iintro %a1 ⟨H3, H5, H6, H12, H13⟩
  ihave G : (arg13.view.loc (c : Thread nD τ) ↦[arg13.view.set]{fullShare} arg13.view.rep (two (mx0 x1 x2 x3 x4 (i 1).val) (mx1 x1 x2 x3 x4 (i 1).val)) : sProp 𝕄) $$ [H13]
  · iapply (pointsTo_rep_of_read c arg13 _ _ _ ?_) $$ [H13]; swap; iexact H13
    rw [View.read_rep]; exact congrArg₂ two (congrArg (mx0 x1 x2 x3 x4) (trips1 i)) (congrArg (mx1 x1 x2 x3 x4) (trips1 i))
  irename G => H13
  sl_exec
  ihave G : (arg13.view.loc (c : Thread nD τ) ↦[arg13.view.set]{fullShare} arg13.view.rep (two (mr0 (i 1).val x1 x2 x3 x4) (mr1 (i 1).val x1 x2 x3 x4)) : sProp 𝕄) $$ [H13]
  · iapply (pointsTo_rep_of_read c arg13 _ _ _ ?_) $$ [H13]; swap; iexact H13
    sl_unfold_run_names
    repeat (first | rw [rd_cov] | rw [rd_unit] | rw [rd_cons] | rw [View.read_rep] | rw [View.writes_nil])
    repeat (first | rw [put0_put1] | rw [slot1_put0] | rw [slot0_put0] | rw [slot0_put1] | rw [slot1_put1] | rw [two_put0] | rw [two_put1] | rw [slot0_two] | rw [slot1_two] | rw [win_slot0] | rw [win_slot1] | rw [win_q0] | rw [win_q1] | rw [win_off9] | rw [win_off10] | rw [win_off11] | rw [win_off12])
    rfl
  irename G => H13
  ihave G : (arg14.view.loc (c : Thread nD τ) ↦[arg14.view.set]{fullShare} arg14.view.rep (two (sm0 (i 1).val x1 x2 x3 x4 0) (sm1 (i 1).val x1 x2 x3 x4 0)) : sProp 𝕄) $$ [H14]
  · iapply (pointsTo_rep_of_read c arg14 _ _ _ ?_) $$ [H14]; swap; iexact H14
    sl_unfold_run_names
    repeat (first | rw [rd_cov] | rw [rd_unit] | rw [rd_cons] | rw [View.read_rep] | rw [View.writes_nil])
    rw [put_full (F := F) (s := S2x256x128) _ inb_S2x256x128_S2x256x128_0_0_0]; exact (two_slots _).symm
  irename G => H14
  sl_for (fun k (_ : Unit) => (iprop((arg3.view.loc (c : Thread nD τ) ↦[arg3.view.set]{fullShare} arg3.view.rep x1) ∗ (arg5.view.loc (c : Thread nD τ) ↦[arg5.view.set]{fullShare} arg5.view.rep x3) ∗ (arg6.view.loc (c : Thread nD τ) ↦[arg6.view.set]{fullShare} arg6.view.rep x4) ∗ (arg11.view.loc (c : Thread nD τ) ↦[arg11.view.set]{fullShare} arg11.view.rep (pK (i 1).val x1 x2 x3 x4 p k)) ∗ (arg12.view.loc (c : Thread nD τ) ↦[arg12.view.set]{fullShare} arg12.view.rep (two (k0_pay21 x2) (k0_pay22 x2))) ∗ (arg13.view.loc (c : Thread nD τ) ↦[arg13.view.set]{fullShare} arg13.view.rep (two (mr0 (i 1).val x1 x2 x3 x4) (mr1 (i 1).val x1 x2 x3 x4))) ∗ (arg14.view.loc (c : Thread nD τ) ↦[arg14.view.set]{fullShare} arg14.view.rep (two (sm0 (i 1).val x1 x2 x3 x4 k) (sm1 (i 1).val x1 x2 x3 x4 k)))) : sProp 𝕄)) $$ [H3 H5 H6 H11 H12 H13 H14]
  case region =>
    intro k a; exact trip3_two arg2 harg2 arg3 harg3 arg4 harg4 arg5 harg5 arg6 harg6 arg7 harg7 arg8 harg8 arg9 harg9 arg10 harg10 arg11 harg11 arg12 harg12 arg13 harg13 arg14 harg14 arg15 harg15 Variants.none c none E i _ _ k x1 x3 x4 _ _ _ _ _ _ _
  · isplitl [H3]; · iexact H3
    isplitl [H5]; · iexact H5
    isplitl [H6]; · iexact H6
    isplitl [H11]; · iexact H11
    isplitl [H12]; · iexact H12
    isplitl [H13]; · iexact H13
    iexact H14
  iintro %a3 ⟨H3, H5, H6, H11, H12, H13, H14⟩
  ihave G : (arg11.view.loc (c : Thread nD τ) ↦[arg11.view.set]{fullShare} arg11.view.rep (pK (i 1).val x1 x2 x3 x4 p (i 1).val) : sProp 𝕄) $$ [H11]
  · iapply (pointsTo_rep_of_read c arg11 _ _ _ ?_) $$ [H11]; swap; iexact H11
    rw [View.read_rep]; exact congrArg (pK (i 1).val x1 x2 x3 x4 p) (trips3 i)
  irename G => H11
  ihave G : (arg14.view.loc (c : Thread nD τ) ↦[arg14.view.set]{fullShare} arg14.view.rep (two (sm0 (i 1).val x1 x2 x3 x4 (i 1).val) (sm1 (i 1).val x1 x2 x3 x4 (i 1).val)) : sProp 𝕄) $$ [H14]
  · iapply (pointsTo_rep_of_read c arg14 _ _ _ ?_) $$ [H14]; swap; iexact H14
    rw [View.read_rep]; exact congrArg₂ two (congrArg (sm0 (i 1).val x1 x2 x3 x4) (trips3 i)) (congrArg (sm1 (i 1).val x1 x2 x3 x4) (trips3 i))
  irename G => H14
  sl_exec
  ihave G : (arg13.view.loc (c : Thread nD τ) ↦[arg13.view.set]{fullShare} arg13.view.rep (two (rW (i 1).val x1 x2 x3 x4 (k0_lam x0)) (mr1 (i 1).val x1 x2 x3 x4)) : sProp 𝕄) $$ [H13]
  · iapply (pointsTo_rep_of_read c arg13 _ _ _ ?_) $$ [H13]; swap; iexact H13
    sl_unfold_run_names
    repeat (first | rw [rd_cov] | rw [rd_unit] | rw [rd_cons] | rw [View.read_rep] | rw [View.writes_nil])
    repeat (first | rw [put0_put1] | rw [slot1_put0] | rw [slot0_put0] | rw [slot0_put1] | rw [slot1_put1] | rw [two_put0] | rw [two_put1] | rw [slot0_two] | rw [slot1_two] | rw [win_slot0] | rw [win_slot1] | rw [win_q0] | rw [win_q1] | rw [win_off9] | rw [win_off10] | rw [win_off11] | rw [win_off12])
    rw [win_full (F := F) (s := S1x1) x0 inb_S1x1_S1x1_0_0, lam_first x0 (Shape.Idx.first _)]
    rfl
  irename G => H13
  ihave G : (arg11.view.loc (c : Thread nD τ) ↦[arg11.view.set]{fullShare} arg11.view.rep (pZ (i 1).val x1 x2 x3 x4 p) : sProp 𝕄) $$ [H11]
  · iapply (pointsTo_rep_of_read c arg11 _ _ _ ?_) $$ [H11]; swap; iexact H11
    sl_unfold_run_names
    repeat (first | rw [rd_cov] | rw [rd_unit] | rw [rd_cons] | rw [View.read_rep] | rw [View.writes_nil])
    repeat (first | rw [put0_put1] | rw [slot1_put0] | rw [slot0_put0] | rw [slot0_put1] | rw [slot1_put1] | rw [two_put0] | rw [two_put1] | rw [slot0_two] | rw [slot1_two] | rw [win_slot0] | rw [win_slot1] | rw [win_q0] | rw [win_q1] | rw [win_off9] | rw [win_off10] | rw [win_off11] | rw [win_off12] | rw [put_off25])
    rfl
  irename G => H11
  ihave G : (arg15.view.loc (c : Thread nD τ) ↦[arg15.view.set]{fullShare} arg15.view.rep (acc (i 1).val x1 x2 x3 x4 x5 (k0_lam x0) (pZ (i 1).val x1 x2 x3 x4 p) 0) : sProp 𝕄) $$ [H15]
  · iapply (pointsTo_rep_of_read c arg15 _ _ _ ?_) $$ [H15]; swap; iexact H15
    sl_unfold_run_names
    repeat (first | rw [rd_cov] | rw [rd_unit] | rw [rd_cons] | rw [View.read_rep] | rw [View.writes_nil])
    rw [put_full (F := F) (s := S256x256) _ inb_S256x256_S256x256_0_0]; rfl
  irename G => H15
  sl_for (fun k (_ : Unit) => (iprop((arg7.view.loc (c : Thread nD τ) ↦[arg7.view.set]{fullShare} arg7.view.rep x5) ∗ (arg11.view.loc (c : Thread nD τ) ↦[arg11.view.set]{fullShare} arg11.view.rep (pZ (i 1).val x1 x2 x3 x4 p)) ∗ (arg13.view.loc (c : Thread nD τ) ↦[arg13.view.set]{fullShare} arg13.view.rep (two (rW (i 1).val x1 x2 x3 x4 (k0_lam x0)) (mr1 (i 1).val x1 x2 x3 x4))) ∗ (arg15.view.loc (c : Thread nD τ) ↦[arg15.view.set]{fullShare} arg15.view.rep (acc (i 1).val x1 x2 x3 x4 x5 (k0_lam x0) (pZ (i 1).val x1 x2 x3 x4 p) k))) : sProp 𝕄)) $$ [H7 H11 H13 H15]
  case region =>
    intro k a; exact trip5_two arg2 harg2 arg3 harg3 arg4 harg4 arg5 harg5 arg6 harg6 arg7 harg7 arg8 harg8 arg9 harg9 arg10 harg10 arg11 harg11 arg12 harg12 arg13 harg13 arg14 harg14 arg15 harg15 Variants.none c none E i _ _ k x5 _ _ _ _
  · isplitl [H7]; · iexact H7
    isplitl [H11]; · iexact H11
    isplitl [H13]; · iexact H13
    iexact H15
  iintro %a5 ⟨H7, H11, H13, H15⟩
  ihave G : (arg15.view.loc (c : Thread nD τ) ↦[arg15.view.set]{fullShare} arg15.view.rep (acc (i 1).val x1 x2 x3 x4 x5 (k0_lam x0) (pZ (i 1).val x1 x2 x3 x4 p) ((i 1).val + 1)) : sProp 𝕄) $$ [H15]
  · iapply (pointsTo_rep_of_read c arg15 _ _ _ ?_) $$ [H15]; swap; iexact H15
    rw [View.read_rep]; exact congrArg (acc (i 1).val x1 x2 x3 x4 x5 (k0_lam x0) (pZ (i 1).val x1 x2 x3 x4 p)) (trips5 i)
  irename G => H15
  sl_exec
  sl_step
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (pointsTo_rep_of_read c arg10 _ _ _ ?_) $$ [H10]; swap; iexact H10
    sl_unfold_run_names
    repeat (first | rw [rd_cov] | rw [rd_unit] | rw [rd_cons] | rw [View.read_rep] | rw [View.writes_nil])
    rw [put_full (F := F) (s := S256x256) _ inb_S256x256_S256x256_0_0, win_full (F := F) (s := S1x1x256) x6 inb_S1x1x256_S1x1x256_0_0_0, win_full (F := F) (s := S1x256) x7 inb_S1x256_S1x256_0_0]
    repeat (first | rw [put0_put1] | rw [slot1_put0] | rw [slot0_put0] | rw [slot0_put1] | rw [slot1_put1] | rw [two_put0] | rw [two_put1] | rw [slot0_two] | rw [slot1_two] | rw [win_slot0] | rw [win_slot1] | rw [win_q0] | rw [win_q1] | rw [win_off9] | rw [win_off10] | rw [win_off11] | rw [win_off12])
    rw [win_full (F := F) (s := S256x256) _ inb_S256x256_S256x256_0_0]
    rfl
  isplitl [H11]
  · iexists _; iapply (pointsTo_rep_of_read c arg11 _ _ _ ?_) $$ [H11]; swap; iexact H11
    rfl
  isplitl [H12]
  · iexists _; iapply (pointsTo_rep_of_read c arg12 _ _ _ ?_) $$ [H12]; swap; iexact H12
    rfl
  isplitl [H13]
  · iexists _; iapply (pointsTo_rep_of_read c arg13 _ _ _ ?_) $$ [H13]; swap; iexact H13
    rfl
  isplitl [H14]
  · iexists _; iapply (pointsTo_rep_of_read c arg14 _ _ _ ?_) $$ [H14]; swap; iexact H14
    rfl
  · iexists _; iapply (pointsTo_rep_of_read c arg15 _ _ _ ?_) $$ [H15]; swap; iexact H15
    rfl

end Cert.KernelIdeal.Body

end
-- ==== Proof.BodyOwns.lean ====
/- The block of the result does not depend on what the scratch held; and the body's triple over owned memrefs. -/
module

public import proofs.«01_k».proof.Proof.BodyRun
public import Idealize.ShloMosaic.Lib.Tactic.Stretches
public import proofs.«01_k».proof.Proof.Gen.KernelIdeal.Launch
public import Idealize.ShloMosaic.Lib.LoopRemainder
public import Idealize.ShloMosaic.Lib.Exec
public import Idealize.ShloMosaic.Lib.Tactic
public import Idealize.ShloMosaic.Lib.Pipeline.Kit
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

section Pure
variable (n : ℕ) (x0 : Vec F S1x1 .f32) (x1 : Vec F S1x2x256x128 .fp8e4m3) (x2 : Vec F S1x2x256 .f32) (x3 : Vec F S1x2x16384x128 .fp8e4m3)
  (x4 : Vec F S1x2x64x256 .f32) (x5 : Vec F S1x16384x256 .fp8e4m3) (x6 : Vec F S1x1x256 .f32) (x7 : Vec F S1x256 .f32) (p : Vec F S64x2x256x256 .f32)

/-- The exponentials of tile `j`: a whole tile's before tile `n`, the cut tile's at `n`. -/
def eT0 (j : ℕ) : FVec F S1x1x256x256 .f32 := if j < n then ex0 n x1 x2 x3 x4 j else exZ0 n x1 x2 x3 x4
def eT1 (j : ℕ) : FVec F S1x1x256x256 .f32 := if j < n then ex1 n x1 x2 x3 x4 j else exZ1 n x1 x2 x3 x4
/-- The accumulated product after `k` tiles. -/
def accV (lam : Elt F .f32) : ℕ → Vec F S256x256 .f32
  | 0 => k0_pay25
  | k + 1 => k0_pay45 (rW n x1 x2 x3 x4 lam) (eT0 n x1 x2 x3 x4 k) (eT1 n x1 x2 x3 x4 k) (vT x5 k) (accV lam k)
/-- The block of the result. -/
def outV (lam : Elt F .f32) : FVec F S256x256 .bf16 :=
  k0_pay1 (k0_pay43 (smZ0 n x1 x2 x3 x4)) (accV n x1 x2 x3 x4 x5 lam (n + 1)) x6 x7

theorem pT0_pK (j : ℕ) : ∀ k, k ≤ 64 → j < k → pT0 (pK n x1 x2 x3 x4 p k) j = ex0 n x1 x2 x3 x4 j
  | 0, _, h => absurd h (Nat.not_lt_zero _)
  | k + 1, hk, h => by
    rw [pK]
    by_cases e : j = k
    · subst e; exact pT0_pPut _ _ _ _
    · rw [pT0_pPut_ne _ _ _ (by omega)]; exact pT0_pK j k (by omega) (by omega)
theorem pT1_pK (j : ℕ) : ∀ k, k ≤ 64 → j < k → pT1 (pK n x1 x2 x3 x4 p k) j = ex1 n x1 x2 x3 x4 j
  | 0, _, h => absurd h (Nat.not_lt_zero _)
  | k + 1, hk, h => by
    rw [pK]
    by_cases e : j = k
    · subst e; exact pT1_pPut _ _ _ _
    · rw [pT1_pPut_ne _ _ _ (by omega)]; exact pT1_pK j k (by omega) (by omega)
theorem pT0_pZ (hn : n < 64) (j : ℕ) (hj : j ≤ n) : pT0 (pZ n x1 x2 x3 x4 p) j = eT0 n x1 x2 x3 x4 j := by
  unfold pZ eT0
  by_cases e : j < n
  · rw [if_pos e, pT0_pPut_ne _ _ _ (by omega)]; exact pT0_pK n x1 x2 x3 x4 p j n (by omega) e
  · obtain rfl : j = n := by omega
    rw [if_neg e]; exact pT0_pPut _ _ _ _
theorem pT1_pZ (hn : n < 64) (j : ℕ) (hj : j ≤ n) : pT1 (pZ n x1 x2 x3 x4 p) j = eT1 n x1 x2 x3 x4 j := by
  unfold pZ eT1
  by_cases e : j < n
  · rw [if_pos e, pT1_pPut_ne _ _ _ (by omega)]; exact pT1_pK n x1 x2 x3 x4 p j n (by omega) e
  · obtain rfl : j = n := by omega
    rw [if_neg e]; exact pT1_pPut _ _ _ _
theorem acc_eq (hn : n < 64) (lam : Elt F .f32) : ∀ k, k ≤ n + 1 → acc n x1 x2 x3 x4 x5 lam (pZ n x1 x2 x3 x4 p) k = accV n x1 x2 x3 x4 x5 lam k
  | 0, _ => rfl
  | k + 1, hk => by
    rw [acc, accV, acc_eq hn lam k (by omega), pT0_pZ n x1 x2 x3 x4 p hn k (by omega), pT1_pZ n x1 x2 x3 x4 p hn k (by omega)]
theorem outB_eq (hn : n < 64) (lam : Elt F .f32) : outB n x1 x2 x3 x4 x5 x6 x7 p lam = outV n x1 x2 x3 x4 x5 x6 x7 lam := by
  unfold outB outV; rw [acc_eq n x1 x2 x3 x4 x5 p hn lam _ le_rfl]

end Pure

variable (arg2 : Memref sig .tc .smem S1x1 .f32) (harg2 : arg2.IsWhole) (arg3 : Memref sig .tc .vmem S1x2x256x128 .fp8e4m3) (harg3 : arg3.IsWhole) (arg4 : Memref sig .tc .vmem S1x2x256 .f32) (harg4 : arg4.IsWhole) (arg5 : Memref sig .tc .vmem S1x2x16384x128 .fp8e4m3) (harg5 : arg5.IsWhole) (arg6 : Memref sig .tc .vmem S1x2x64x256 .f32) (harg6 : arg6.IsWhole) (arg7 : Memref sig .tc .vmem S1x16384x256 .fp8e4m3) (harg7 : arg7.IsWhole) (arg8 : Memref sig .tc .vmem S1x1x256 .f32) (harg8 : arg8.IsWhole) (arg9 : Memref sig .tc .vmem S1x256 .f32) (harg9 : arg9.IsWhole) (arg10 : Memref sig .tc .vmem S256x256 .bf16) (harg10 : arg10.IsWhole) (arg11 : Memref sig .tc .vmem S64x2x256x256 .f32) (harg11 : arg11.IsWhole) (arg12 : Memref sig .tc .vmem S2x256x128 .f32) (harg12 : arg12.IsWhole) (arg13 : Memref sig .tc .vmem S2x256x128 .f32) (harg13 : arg13.IsWhole) (arg14 : Memref sig .tc .vmem S2x256x128 .f32) (harg14 : arg14.IsWhole) (arg15 : Memref sig .tc .vmem S256x256 .f32) (harg15 : arg15.IsWhole)
variable (c : Dev nD) (i : grid0.Coords)

/-- The body's triple: on whole memrefs, the inputs' at their blocks, the output's and the scratch at anything, the body leaves the block of the
    result and the inputs as they were. -/
theorem body_owns (x0 : Vec F S1x1 .f32) (x1 : Vec F S1x2x256x128 .fp8e4m3) (x2 : Vec F S1x2x256 .f32) (x3 : Vec F S1x2x16384x128 .fp8e4m3) (x4 : Vec F S1x2x64x256 .f32) (x5 : Vec F S1x16384x256 .fp8e4m3) (x6 : Vec F S1x1x256 .f32) (x7 : Vec F S1x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outV (i 1).val x1 x2 x3 x4 x5 x6 x7 (k0_lam x0)) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15) K := by
  unfold owns
  iintro ⟨⟨%f0, %h0, H2⟩, ⟨%f1, %h1, H3⟩, ⟨%f2, %h2, H4⟩, ⟨%f3, %h3, H5⟩, ⟨%f4, %h4, H6⟩, ⟨%f5, %h5, H7⟩, ⟨%f6, %h6, H8⟩, ⟨%f7, %h7, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, HK⟩
  iapply (body_run arg2 harg2 arg3 harg3 arg4 harg4 arg5 harg5 arg6 harg6 arg7 harg7 arg8 harg8 arg9 harg9 arg10 harg10 arg11 harg11 arg12 harg12 arg13 harg13 arg14 harg14 arg15 harg15 c i x0 x1 x2 x3 x4 x5 x6 x7 (arg10.view.read (Elt F) f10) (arg11.view.read (Elt F) f11) (arg12.view.read (Elt F) f12) (arg13.view.read (Elt F) f13) (arg14.view.read (Elt F) f14) (arg15.view.read (Elt F) f15) E K)
  isplitl [H2]
  · iapply (pointsTo_rep_of_read c arg2 _ _ _ h0) $$ [H2]; iexact H2
  isplitl [H3]
  · iapply (pointsTo_rep_of_read c arg3 _ _ _ h1) $$ [H3]; iexact H3
  isplitl [H4]
  · iapply (pointsTo_rep_of_read c arg4 _ _ _ h2) $$ [H4]; iexact H4
  isplitl [H5]
  · iapply (pointsTo_rep_of_read c arg5 _ _ _ h3) $$ [H5]; iexact H5
  isplitl [H6]
  · iapply (pointsTo_rep_of_read c arg6 _ _ _ h4) $$ [H6]; iexact H6
  isplitl [H7]
  · iapply (pointsTo_rep_of_read c arg7 _ _ _ h5) $$ [H7]; iexact H7
  isplitl [H8]
  · iapply (pointsTo_rep_of_read c arg8 _ _ _ h6) $$ [H8]; iexact H8
  isplitl [H9]
  · iapply (pointsTo_rep_of_read c arg9 _ _ _ h7) $$ [H9]; iexact H9
  isplitl [H10]
  · iapply (pointsTo_rep_of_read c arg10 _ _ _ rfl) $$ [H10]; iexact H10
  isplitl [H11]
  · iapply (pointsTo_rep_of_read c arg11 _ _ _ rfl) $$ [H11]; iexact H11
  isplitl [H12]
  · iapply (pointsTo_rep_of_read c arg12 _ _ _ rfl) $$ [H12]; iexact H12
  isplitl [H13]
  · iapply (pointsTo_rep_of_read c arg13 _ _ _ rfl) $$ [H13]; iexact H13
  isplitl [H14]
  · iapply (pointsTo_rep_of_read c arg14 _ _ _ rfl) $$ [H14]; iexact H14
  isplitl [H15]
  · iapply (pointsTo_rep_of_read c arg15 _ _ _ rfl) $$ [H15]; iexact H15
  iintro ⟨H2, H3, H4, H5, H6, H7, H8, H9, H10, ⟨%e11, H11⟩, ⟨%e12, H12⟩, ⟨%e13, H13⟩, ⟨%e14, H14⟩, ⟨%e15, H15⟩⟩
  iapply HK
  isplitl [H2]
  · iexists _; isplitr; · ipureintro; exact View.read_rep _ _
    iexact H2
  isplitl [H3]
  · iexists _; isplitr; · ipureintro; exact View.read_rep _ _
    iexact H3
  isplitl [H4]
  · iexists _; isplitr; · ipureintro; exact View.read_rep _ _
    iexact H4
  isplitl [H5]
  · iexists _; isplitr; · ipureintro; exact View.read_rep _ _
    iexact H5
  isplitl [H6]
  · iexists _; isplitr; · ipureintro; exact View.read_rep _ _
    iexact H6
  isplitl [H7]
  · iexists _; isplitr; · ipureintro; exact View.read_rep _ _
    iexact H7
  isplitl [H8]
  · iexists _; isplitr; · ipureintro; exact View.read_rep _ _
    iexact H8
  isplitl [H9]
  · iexists _; isplitr; · ipureintro; exact View.read_rep _ _
    iexact H9
  isplitl [H10]
  · iexists _; isplitr; swap; · iexact H10
    ipureintro; rw [View.read_rep]; exact outB_eq (i 1).val x1 x2 x3 x4 x5 x6 x7 _ (i 1).isLt _
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

end Cert.KernelIdeal.Body

end
-- ==== Proof.IdealValue.lean ====
/- The run of the kernel with what it leaves in the output's blocks named: the body's triple, the proof data, the launch. -/
module

public import proofs.«01_k».proof.Proof.IdealRuns
public import proofs.«01_k».proof.Proof.BodyOwns
public import Idealize.ShloMosaic.Lib.LoopRemainder
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.KernelIdeal.Run (ms0_0 ms0_1 ms0_2 ms0_3 ms0_4 ms0_5 ms0_6 ms0_7 ms0_8 PhiA0_eq)
open Cert.KernelIdeal.Body

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- What the body leaves in the output's block at grid point `t`. -/
def oblk (c : Dev nD) (t : Fin cfg0.N) : FVec F S256x256 .bf16 :=
  outV (grid0.coords t 1).val (iblk m c 1 t) (iblk m c 2 t) (iblk m c 3 t) (iblk m c 4 t) (iblk m c 5 t) (iblk m c 6 t) (iblk m c 7 t) (k0_lam (iblk m c 0 t))

/-- The proof data of the one pipeline on core `c`: the arrays as the region finds them (`V`); after the body at
    point `t` each input's buffer at its block and the output's at `oblk`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => oblk m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = oblk m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_owns _ _ _ _ _ _ _ _ _ _ _ _ _ _ _ _ _ _ _ _ _ _ _ _ _ _ _ _ c (grid0.coords t) (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The launch: every weakly fair execution ends, with every array of the pipeline at what the proof data says and every other unscoped buffer as
    the lines after the region leave it. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Val

end
-- ==== Proof.RowMath.lean ====
/- One row of differential attention over the extended reals: the row computed by exponentials of base two, tile by tile, with the
   division by the first component's sum put off to the end, is the row computed by two softmaxes over all the keys. -/
module

public import Idealize.ShloMosaic.PureOps.Ideal

@[expose] public section

noncomputable section

namespace Cert.RowMath

open Idealize.ShloMosaic

/-! ## Sums and suprema cut into tiles -/

/-- A sum over `T·n` indices is a sum over `n` tiles. -/
theorem sum_tiles (f : ℕ → EReal) (T n : ℕ) :
    ∑ j ∈ Finset.range n, ∑ t ∈ Finset.range T, f (T * j + t) = ∑ J ∈ Finset.range (T * n), f J := by
  induction n with
  | zero => simp
  | succ n ih => rw [Finset.sum_range_succ, ih, Nat.mul_succ, Finset.sum_range_add]

/-- A fold of `max` from `-∞` lies below `b` exactly if every element does. -/
theorem fold_max_le {ι : Type} [Fintype ι] (f : ι → EReal) (b : EReal) :
    Finset.univ.fold max ⊥ f ≤ b ↔ ∀ i, f i ≤ b := by
  rw [Finset.fold_max_le]; simp

/-! ## A positive real factor -/

theorem pos_mul_add (c : ℝ) (hc : 0 ≤ c) (x y : EReal) : (c : EReal) * (x + y) = c * x + c * y :=
  EReal.left_distrib_of_nonneg_of_ne_top (by exact_mod_cast hc) (EReal.coe_ne_top c) x y

theorem pos_mul_sub (c : ℝ) (hc : 0 ≤ c) (x y : EReal) : (c : EReal) * (x - y) = c * x - c * y := by
  rw [sub_eq_add_neg, sub_eq_add_neg, pos_mul_add c hc, mul_neg]

theorem pos_mul_sum (c : ℝ) (hc : 0 ≤ c) (s : Finset ℕ) (f : ℕ → EReal) : (c : EReal) * ∑ J ∈ s, f J = ∑ J ∈ s, (c : EReal) * f J := by
  induction s using Finset.induction_on with
  | empty => simp
  | insert a s ha ih => rw [Finset.sum_insert ha, Finset.sum_insert ha, pos_mul_add c hc, ih]

theorem coe_mul_inv (c : ℝ) (hc : 0 < c) : (c : EReal) * ((1 / c : ℝ) : EReal) = 1 := by
  rw [← EReal.coe_mul, mul_one_div_cancel hc.ne', EReal.coe_one]

/-- Multiplying by a positive real keeps the order. -/
theorem mul_le_mul_pos (c : ℝ) (hc : 0 < c) (x y : EReal) : x * (c : EReal) ≤ y * c ↔ x ≤ y := by
  constructor
  · intro h
    have hi : (0 : EReal) ≤ ((1 / c : ℝ) : EReal) := by exact_mod_cast (one_div_pos.mpr hc).le
    have := mul_le_mul_of_nonneg_right h hi
    rwa [mul_assoc, mul_assoc, coe_mul_inv c hc, mul_one, mul_one] at this
  · intro h
    exact mul_le_mul_of_nonneg_right h (by exact_mod_cast hc.le)

theorem le_mul_inv (c : ℝ) (hc : 0 < c) (x b : EReal) : x * (c : EReal) ≤ b ↔ x ≤ b * ((1 / c : ℝ) : EReal) := by
  rw [← mul_le_mul_pos c hc x, mul_assoc, mul_comm ((1 / c : ℝ) : EReal), coe_mul_inv c hc, mul_one]

/-! ## Exponentials -/

/-- `log₂ e`. -/
abbrev kap : ℝ := (Real.log 2)⁻¹

theorem kap_pos : 0 < kap := inv_pos.mpr (Real.log_pos (by norm_num))

theorem exp2_mul_kap (y : EReal) : Ideal.exp2 (y * (kap : EReal)) = Ideal.exp y := by
  induction y using EReal.rec with
  | bot => rw [EReal.bot_mul_coe_of_pos kap_pos]; rfl
  | top => rw [EReal.top_mul_coe_of_pos kap_pos]; rfl
  | coe r =>
    rw [← EReal.coe_mul, Ideal.exp2_coe, Ideal.exp_coe]
    refine congrArg _ ?_
    show (2 : ℝ) ^ (r * kap) = _
    rw [Real.rpow_def_of_pos (by norm_num)]
    refine congrArg _ ?_
    have : Real.log 2 ≠ 0 := (Real.log_pos (by norm_num)).ne'
    rw [mul_comm r, ← mul_assoc, mul_inv_cancel₀ this, one_mul]

theorem mul_kap_sub (x m : EReal) : x * (kap : EReal) - m * kap = (x - m) * kap := by
  rw [mul_comm x, mul_comm m, mul_comm (x - m), pos_mul_sub kap kap_pos.le]

/-! ## One component's softmax -/

section Comp
variable (N : ℕ) (x : ℕ → EReal) (m : EReal)

/-- The row's exponential at a key, and the row's sum. -/
def ee (J : ℕ) : EReal := Ideal.exp (x J - m)
def LL : EReal := ∑ J ∈ Finset.range N, ee x m J

variable {N x m}
variable (hm : ∀ b, m ≤ b ↔ ∀ J, J < N → x J ≤ b)
include hm

theorem x_le (J : ℕ) (h : J < N) : x J ≤ m := (hm m).1 le_rfl J h

/-- Without a finite maximum every exponential is zero. -/
theorem ee_bad (hb : m = ⊤ ∨ m = ⊥) (J : ℕ) (h : J < N) : ee x m J = 0 := by
  have hx := x_le hm J h
  unfold ee
  rcases hb with rfl | rfl
  · rw [sub_eq_add_neg, EReal.neg_top, EReal.add_bot]; rfl
  · rw [le_bot_iff.1 hx, sub_eq_add_neg, EReal.bot_add]; rfl

theorem LL_bad (hb : m = ⊤ ∨ m = ⊥) : LL N x m = 0 :=
  Finset.sum_eq_zero fun J hJ => ee_bad hm hb J (Finset.mem_range.1 hJ)

/-- With one, they are nonnegative reals, -/
theorem ee_good (μ : ℝ) (hμ : m = (μ : EReal)) (J : ℕ) (h : J < N) : ∃ ρ : ℝ, 0 ≤ ρ ∧ ee x m J = (ρ : EReal) ∧ (x J ≠ ⊥ → 0 < ρ) := by
  have hx := x_le hm J h
  subst hμ
  unfold ee
  generalize x J = y at hx ⊢
  induction y using EReal.rec with
  | bot => exact ⟨0, le_rfl, by rw [sub_eq_add_neg, EReal.bot_add]; rfl, fun h => absurd rfl h⟩
  | top => exact absurd (top_le_iff.1 hx) (EReal.coe_ne_top μ)
  | coe r => exact ⟨Real.exp (r - μ), (Real.exp_pos _).le, by rw [← EReal.coe_sub]; rfl, fun _ => Real.exp_pos _⟩

/-- and their sum is a positive real. -/
theorem LL_good (μ : ℝ) (hμ : m = (μ : EReal)) : ∃ Λ : ℝ, 0 < Λ ∧ LL N x m = (Λ : EReal) := by
  have hex : ∃ J, J < N ∧ x J ≠ ⊥ := by
    by_contra hc
    push Not at hc
    have : m ≤ ⊥ := (hm ⊥).2 fun J h => (hc J h).le
    rw [le_bot_iff.1 this] at hμ
    exact EReal.bot_ne_coe μ hμ
  choose! ρ h0 h1 h2 using fun J (h : J < N) => ee_good hm μ hμ J h
  refine ⟨∑ J ∈ Finset.range N, ρ J, ?_, ?_⟩
  · obtain ⟨J, hJ, hne⟩ := hex
    exact Finset.sum_pos' (fun J hJ => h0 J (Finset.mem_range.1 hJ)) ⟨J, Finset.mem_range.2 hJ, h2 J hJ hne⟩
  · unfold LL
    rw [Finset.sum_congr rfl fun J hJ => h1 J (Finset.mem_range.1 hJ)]
    exact (map_sum (⟨⟨Real.toEReal, EReal.coe_zero⟩, EReal.coe_add⟩ : ℝ →+ EReal) ρ _).symm

end Comp

/-- Whether a row has a finite maximum. -/
abbrev fin (m : EReal) : Prop := max m (-m) < ⊤

theorem not_fin {m : EReal} (h : ¬ fin m) : m = ⊤ ∨ m = ⊥ := by
  induction m using EReal.rec with
  | bot => exact .inr rfl
  | top => exact .inl rfl
  | coe r => exact absurd (max_lt (EReal.coe_lt_top r) (by rw [← EReal.coe_neg]; exact EReal.coe_lt_top _)) h

theorem of_fin {m : EReal} (h : fin m) : ∃ μ : ℝ, m = (μ : EReal) := by
  induction m using EReal.rec with
  | bot => exact absurd h (by simp [fin])
  | top => exact absurd h (by simp [fin])
  | coe r => exact ⟨r, rfl⟩

/-! ## The two components together -/

/-- The weight of a key in one component, and the difference of the two components' weights. -/
def pp (N : ℕ) (x : ℕ → EReal) (m : EReal) (J : ℕ) : EReal := if fin m then Ideal.div (ee x m J) (LL N x m) else 0
def aa (N : ℕ) (x0 x1 : ℕ → EReal) (m0 m1 lam : EReal) (J : ℕ) : EReal :=
  if fin m0 then pp N x0 m0 J - lam * pp N x1 m1 J else 0

theorem div_zero_mul (L : EReal) (h : L = 0) (e : EReal) (he : e = 0) (y : EReal) : e * Ideal.div y L = 0 := by
  rw [he, zero_mul]

/-- The two accumulations agree up to the first component's sum. -/
theorem attn (N : ℕ) (x0 x1 V : ℕ → EReal) (m0 m1 lam vs : EReal)
    (h0 : ∀ b, m0 ≤ b ↔ ∀ J, J < N → x0 J ≤ b) (h1 : ∀ b, m1 ≤ b ↔ ∀ J, J < N → x1 J ≤ b) :
    (∑ J ∈ Finset.range N, (ee x0 m0 J - ee x1 m1 J * Ideal.div (lam * LL N x0 m0) (LL N x1 m1)) * V J) * vs * Ideal.div 1 (LL N x0 m0)
      = (∑ J ∈ Finset.range N, V J * aa N x0 x1 m0 m1 lam J) * vs := by
  by_cases hf0 : fin m0
  · obtain ⟨μ0, hμ0⟩ := of_fin hf0
    obtain ⟨Λ0, hΛ0, hL0⟩ := LL_good h0 μ0 hμ0
    have key : ∀ J ∈ Finset.range N, (ee x0 m0 J - ee x1 m1 J * Ideal.div (lam * LL N x0 m0) (LL N x1 m1)) * V J
        = (Λ0 : EReal) * (V J * aa N x0 x1 m0 m1 lam J) := by
      intro J hJ
      have hJ' := Finset.mem_range.1 hJ
      have hp0 : (Λ0 : EReal) * Ideal.div (ee x0 m0 J) (LL N x0 m0) = ee x0 m0 J := by
        rw [hL0, Ideal.div_coe hΛ0.ne', mul_left_comm, coe_mul_inv Λ0 hΛ0, mul_one]
      unfold aa pp
      rw [if_pos hf0, if_pos hf0, mul_left_comm, pos_mul_sub Λ0 hΛ0.le, hp0, mul_comm (V J)]
      refine congrArg (· * V J) (congrArg (ee x0 m0 J - ·) ?_)
      by_cases hf1 : fin m1
      · obtain ⟨μ1, hμ1⟩ := of_fin hf1
        obtain ⟨Λ1, hΛ1, hL1⟩ := LL_good h1 μ1 hμ1
        rw [if_pos hf1, hL0, hL1, Ideal.div_coe hΛ1.ne', Ideal.div_coe hΛ1.ne']
        ac_rfl
      · rw [if_neg hf1, ee_bad h1 (not_fin hf1) J hJ', zero_mul, mul_zero, mul_zero]
    rw [Finset.sum_congr rfl key, ← pos_mul_sum Λ0 hΛ0.le, hL0, Ideal.div_coe hΛ0.ne', one_mul]
    calc (Λ0 : EReal) * (∑ J ∈ Finset.range N, V J * aa N x0 x1 m0 m1 lam J) * vs * ((1 / Λ0 : ℝ) : EReal)
        = ((Λ0 : EReal) * ((1 / Λ0 : ℝ) : EReal)) * ((∑ J ∈ Finset.range N, V J * aa N x0 x1 m0 m1 lam J) * vs) := by ac_rfl
      _ = _ := by rw [coe_mul_inv Λ0 hΛ0, one_mul]
  · have hb0 := not_fin hf0
    have hL0 := LL_bad h0 hb0
    rw [Finset.sum_eq_zero, Finset.sum_eq_zero, zero_mul, zero_mul]
    · intro J hJ
      unfold aa; rw [if_neg hf0, mul_zero]
    · intro J hJ
      have hJ' := Finset.mem_range.1 hJ
      have : ee x1 m1 J * Ideal.div (lam * LL N x0 m0) (LL N x1 m1) = 0 := by
        rw [hL0, mul_zero]
        by_cases hf1 : fin m1
        · obtain ⟨μ1, hμ1⟩ := of_fin hf1
          obtain ⟨Λ1, hΛ1, hL1⟩ := LL_good h1 μ1 hμ1
          rw [hL1, Ideal.div_coe hΛ1.ne', zero_mul, mul_zero]
        · rw [ee_bad h1 (not_fin hf1) J hJ', zero_mul]
      rw [this, ee_bad h0 hb0 J hJ', sub_zero, zero_mul]

/-! ## Keys past the visible ones -/

section Cut
variable {K N : ℕ} (hK : K ≤ N) {x : ℕ → EReal} {m : EReal} (hx : ∀ J, K ≤ J → x J = ⊥)
include hx

theorem ee_cut (J : ℕ) (h : K ≤ J) : ee x m J = 0 := by
  unfold ee; rw [hx J h, sub_eq_add_neg, EReal.bot_add]; rfl

include hK

theorem max_cut (hm : ∀ b, m ≤ b ↔ ∀ J, J < N → x J ≤ b) : ∀ b, m ≤ b ↔ ∀ J, J < K → x J ≤ b := by
  intro b
  rw [hm b]
  refine ⟨fun h J hJ => h J (by omega), fun h J hJ => ?_⟩
  by_cases hJK : J < K
  · exact h J hJK
  · rw [hx J (by omega)]; exact bot_le

theorem LL_cut : LL N x m = LL K x m := by
  unfold LL
  refine (Finset.sum_subset (Finset.range_subset_range.2 hK) fun J _ h => ee_cut hx J ?_).symm
  simpa using h

end Cut

theorem div_zero_left (L : EReal) (h : L ≠ 0) : Ideal.div 0 L = 0 := by
  unfold Ideal.div; rw [if_neg h, zero_mul]

theorem aa_cut {K N : ℕ} (hK : K ≤ N) {x0 x1 : ℕ → EReal} {m0 m1 lam : EReal} (hx0 : ∀ J, K ≤ J → x0 J = ⊥) (hx1 : ∀ J, K ≤ J → x1 J = ⊥)
    (h0 : ∀ b, m0 ≤ b ↔ ∀ J, J < N → x0 J ≤ b) (h1 : ∀ b, m1 ≤ b ↔ ∀ J, J < N → x1 J ≤ b) (J : ℕ) (hJ : K ≤ J) :
    aa N x0 x1 m0 m1 lam J = 0 := by
  have hp : ∀ {x : ℕ → EReal} {m : EReal}, (∀ J, K ≤ J → x J = ⊥) → (∀ b, m ≤ b ↔ ∀ J, J < N → x J ≤ b) → pp N x m J = 0 := by
    intro x m hx hm
    unfold pp
    by_cases hf : fin m
    · obtain ⟨μ, hμ⟩ := of_fin hf
      obtain ⟨Λ, hΛ, hL⟩ := LL_good hm μ hμ
      rw [if_pos hf, ee_cut hx J hJ, div_zero_left]
      rw [hL]; exact_mod_cast hΛ.ne'
    · rw [if_neg hf]
  unfold aa
  by_cases hf : fin m0
  · rw [if_pos hf, hp hx0 h0, hp hx1 h1, mul_zero, sub_zero]
  · rw [if_neg hf]

theorem aa_sum_cut {K N : ℕ} (hK : K ≤ N) {x0 x1 V : ℕ → EReal} {m0 m1 lam : EReal} (hx0 : ∀ J, K ≤ J → x0 J = ⊥) (hx1 : ∀ J, K ≤ J → x1 J = ⊥)
    (h0 : ∀ b, m0 ≤ b ↔ ∀ J, J < N → x0 J ≤ b) (h1 : ∀ b, m1 ≤ b ↔ ∀ J, J < N → x1 J ≤ b) :
    ∑ J ∈ Finset.range N, V J * aa N x0 x1 m0 m1 lam J = ∑ J ∈ Finset.range K, V J * aa K x0 x1 m0 m1 lam J := by
  rw [← Finset.sum_subset (Finset.range_subset_range.2 hK) (fun J _ h => by
    rw [aa_cut hK hx0 hx1 h0 h1 J (by simpa using h), mul_zero])]
  refine Finset.sum_congr rfl fun J _ => ?_
  unfold aa pp
  rw [LL_cut hK hx0, LL_cut hK hx1]

/-! ## The row by tiles -/

section Tiles
variable (n r : ℕ) (z : ℕ → ℕ → EReal)

/-- The running maximum of a lane after `k` tiles, -/
def tmx : ℕ → ℕ → EReal
  | 0, _ => ⊥
  | k + 1, l => max (tmx k l) (max (z k l) (z k (128 + l)))

theorem tmx_le (k l : ℕ) (b : EReal) : tmx z k l ≤ b ↔ ∀ j, j < k → z j l ≤ b ∧ z j (128 + l) ≤ b := by
  induction k with
  | zero => simp [tmx]
  | succ k ih =>
    show max _ (max _ _) ≤ b ↔ _
    rw [max_le_iff, max_le_iff, ih]
    refine ⟨fun h j hj => ?_, fun h => ⟨fun j hj => h j (by omega), h k (by omega)⟩⟩
    rcases Nat.lt_succ_iff_lt_or_eq.1 hj with h' | rfl
    · exact h.1 j h'
    · exact h.2

/-- the row's maximum over the lanes, -/
theorem fold_tmx_le (b : EReal) :
    (Finset.univ.fold max ⊥ fun l : Fin 128 => tmx z (n + 1) l.val) ≤ b ↔ ∀ J, J < 256 * (n + 1) → z (J / 256) (J % 256) ≤ b := by
  rw [fold_max_le]
  constructor
  · intro h J hJ
    have hd : J / 256 < n + 1 := by omega
    by_cases hl : J % 256 < 128
    · exact ((tmx_le z (n + 1) _ b).1 (h ⟨J % 256, hl⟩) _ hd).1
    · have h2 := ((tmx_le z (n + 1) _ b).1 (h ⟨J % 256 - 128, by omega⟩) _ hd).2
      rwa [show 128 + (J % 256 - 128) = J % 256 by omega] at h2
  · intro h l
    have hl := l.isLt
    refine (tmx_le z (n + 1) _ b).2 fun j hj => ⟨?_, ?_⟩
    · have := h (256 * j + l.val) (by omega)
      rwa [show (256 * j + l.val) / 256 = j by omega, show (256 * j + l.val) % 256 = l.val by omega] at this
    · have := h (256 * j + (128 + l.val)) (by omega)
      rwa [show (256 * j + (128 + l.val)) / 256 = j by omega, show (256 * j + (128 + l.val)) % 256 = 128 + l.val by omega] at this

/-- and the running sum of a lane. -/
def tsm : ℕ → ℕ → EReal
  | 0, _ => 0
  | k + 1, l => tsm k l + (z k l + z k (128 + l))

theorem tsm_eq (k l : ℕ) : tsm z k l = ∑ j ∈ Finset.range k, (z j l + z j (128 + l)) := by
  induction k with
  | zero => rfl
  | succ k ih => rw [Finset.sum_range_succ, ← ih]; rfl

theorem sum_tsm (k : ℕ) : ∑ l : Fin 128, tsm z k l.val = ∑ J ∈ Finset.range (256 * k), z (J / 256) (J % 256) := by
  have h1 : ∀ j, ∑ l : Fin 128, (z j l.val + z j (128 + l.val)) = ∑ t ∈ Finset.range 256, z j t := by
    intro j
    rw [Finset.sum_add_distrib, Fin.sum_univ_eq_sum_range (fun l => z j l) 128, Fin.sum_univ_eq_sum_range (fun l => z j (128 + l)) 128]
    exact (Finset.sum_range_add (fun t => z j t) 128 128).symm
  rw [Finset.sum_congr rfl fun l _ => tsm_eq z k l.val, Finset.sum_comm, Finset.sum_congr rfl fun j _ => h1 j, ← sum_tiles _ 256 k]
  refine Finset.sum_congr rfl fun j _ => Finset.sum_congr rfl fun t ht => ?_
  have := Finset.mem_range.1 ht
  rw [show (256 * j + t) / 256 = j by omega, show (256 * j + t) % 256 = t by omega]

/-- An accumulation tile by tile. -/
def tac (g : ℕ → ℕ → EReal) : ℕ → EReal
  | 0 => 0
  | k + 1 => tac g k + ∑ t : Fin 256, g k t.val

theorem tac_eq (g : ℕ → ℕ → EReal) (k : ℕ) : tac g k = ∑ J ∈ Finset.range (256 * k), g (J / 256) (J % 256) := by
  have h : tac g k = ∑ j ∈ Finset.range k, ∑ t ∈ Finset.range 256, g j t := by
    induction k with
    | zero => rfl
    | succ k ih => rw [Finset.sum_range_succ, ← ih, ← Fin.sum_univ_eq_sum_range (fun t => g k t) 256]; rfl
  rw [h, ← sum_tiles _ 256 k]
  refine Finset.sum_congr rfl fun j _ => Finset.sum_congr rfl fun t ht => ?_
  have := Finset.mem_range.1 ht
  rw [show (256 * j + t) / 256 = j by omega, show (256 * j + t) % 256 = t by omega]

end Tiles

/-! ## The row by tiles is the row -/

/-- The maximum in base two, -/
def kmax (n : ℕ) (z : ℕ → ℕ → EReal) : EReal := Finset.univ.fold max ⊥ fun l : Fin 128 => tmx z (n + 1) l.val
/-- the exponentials, -/
def kexp (n : ℕ) (z : ℕ → ℕ → EReal) (j t : ℕ) : EReal := Ideal.exp2 (z j t - kmax n z)
/-- their sum, -/
def ksum (n : ℕ) (z : ℕ → ℕ → EReal) : EReal := ∑ l : Fin 128, tsm (kexp n z) (n + 1) l.val
/-- and the row's product. -/
def krow (n : ℕ) (z0 z1 v : ℕ → ℕ → EReal) (lam vs : EReal) : EReal :=
  tac (fun j t => (kexp n z0 j t - kexp n z1 j t * Ideal.div (lam * ksum n z0) (ksum n z1)) * v j t) (n + 1) * vs * Ideal.div 1 (ksum n z0)

section Final
variable {n N : ℕ} (hn : 256 * (n + 1) ≤ N) {x : ℕ → EReal} {m : EReal} {z : ℕ → ℕ → EReal}
  (hx : ∀ J, 256 * (n + 1) ≤ J → x J = ⊥) (hm : ∀ b, m ≤ b ↔ ∀ J, J < N → x J ≤ b)
  (hz : ∀ J, J < 256 * (n + 1) → z (J / 256) (J % 256) = x J * (kap : EReal))
include hn hx hm hz

theorem kmax_eq : kmax n z = m * (kap : EReal) := by
  refine eq_of_forall_ge_iff fun b => ?_
  unfold kmax
  rw [fold_tmx_le, le_mul_inv kap kap_pos, max_cut hn hx hm]
  refine forall_congr' fun J => forall_congr' fun hJ => ?_
  rw [hz J hJ, le_mul_inv kap kap_pos]

theorem kexp_eq (J : ℕ) (hJ : J < 256 * (n + 1)) : kexp n z (J / 256) (J % 256) = ee x m J := by
  unfold kexp ee
  rw [kmax_eq hn hx hm hz, hz J hJ, mul_kap_sub, exp2_mul_kap]

theorem ksum_eq : ksum n z = LL (256 * (n + 1)) x m := by
  unfold ksum LL
  rw [sum_tsm]
  exact Finset.sum_congr rfl fun J hJ => kexp_eq hn hx hm hz J (Finset.mem_range.1 hJ)

end Final

/-- THE ROW: the tiled product is the reference's. -/
theorem krow_eq {n N : ℕ} (hn : 256 * (n + 1) ≤ N) {x0 x1 V : ℕ → EReal} {m0 m1 lam vs : EReal} {z0 z1 v : ℕ → ℕ → EReal}
    (hx0 : ∀ J, 256 * (n + 1) ≤ J → x0 J = ⊥) (hx1 : ∀ J, 256 * (n + 1) ≤ J → x1 J = ⊥)
    (hm0 : ∀ b, m0 ≤ b ↔ ∀ J, J < N → x0 J ≤ b) (hm1 : ∀ b, m1 ≤ b ↔ ∀ J, J < N → x1 J ≤ b)
    (hz0 : ∀ J, J < 256 * (n + 1) → z0 (J / 256) (J % 256) = x0 J * (kap : EReal))
    (hz1 : ∀ J, J < 256 * (n + 1) → z1 (J / 256) (J % 256) = x1 J * (kap : EReal))
    (hv : ∀ J, J < 256 * (n + 1) → v (J / 256) (J % 256) = V J) :
    krow n z0 z1 v lam vs = (∑ J ∈ Finset.range N, V J * aa N x0 x1 m0 m1 lam J) * vs := by
  unfold krow
  rw [tac_eq, ksum_eq hn hx0 hm0 hz0, ksum_eq hn hx1 hm1 hz1, aa_sum_cut hn hx0 hx1 hm0 hm1,
    ← attn _ _ _ _ _ _ _ _ (max_cut hn hx0 hm0) (max_cut hn hx1 hm1)]
  refine congrArg (· * vs * _) (Finset.sum_congr rfl fun J hJ => ?_)
  have hJ' := Finset.mem_range.1 hJ
  rw [kexp_eq hn hx0 hm0 hz0 J hJ', kexp_eq hn hx1 hm1 hz1 J hJ', hv J hJ']

end Cert.RowMath

end
-- ==== Proof.KernelPure.lean ====
/- The kernel's vector steps read at an index, over the extended reals. -/
module

public import proofs.«01_k».proof.Proof.BodyOwns
public import proofs.«01_k».proof.Proof.RowMath
public import Idealize.ShloMosaic.Lib.Pointwise
public import Idealize.ShloMosaic.Lib.WordCmp

@[expose] public section

set_option maxRecDepth 16384

noncomputable section

namespace Cert.KernelIdeal.Pure

open Idealize.ShloMosaic Idealize.ShloMosaic.TcCoe
open Cert.KernelIdeal Cert.KernelIdeal.Gen

/-- The named constant is `log₂ e`. -/
theorem named_kap : Named.named (F := Ideal) (φ := .f32) κ "log2_e" 0x3FB8AA3B#32 = (RowMath.kap : EReal) :=
  IdealRules.named_const.ideal_named_scalar _ _ _ _ rfl

theorem neg_inf : Ideal.ofBits .f32 0xFF800000#32 = ⊥ := by simp [Ideal.ofBits, Ideal.ieee]

/-- The mask's choice. -/
theorem sel_le (a b : ℕ) (ha : a < 1000) (hb : b < 1000) (x y : EReal) :
    Scalar.select (IntOp.cmpi .sle (BitVec.ofNat 32 a) (BitVec.ofNat 32 b)) x y = if a ≤ b then x else y := by
  have h1 : a < 2 ^ 31 := by omega
  have h2 : b < 2 ^ 31 := by omega
  word_cmp

section
variable (q k : FVec Ideal S1x1x256x128 .fp8e4m3) (s : FVec Ideal S1x1x1x256 .f32) (w m : FVec Ideal S1x256x128 .f32)
variable (r : Fin 256) (a b : EReal)

/-- A scaled score, the query's scale being `a`. -/
def sT (a : EReal) (c : Fin 256) : EReal :=
  ((∑ d : Fin 128, q (ix4 0 0 r d) * k (ix4 0 0 c d)) * (s (ix4 0 0 0 c) * (RowMath.kap : EReal))) * a
/-- A masked one. -/
def sM (a : EReal) (c : Fin 256) : EReal := if c.val ≤ r.val then sT q k s r a c else ⊥

abbrev lo (l : Fin 128) : Fin 256 := ⟨l.val, by omega⟩
abbrev hi (l : Fin 128) : Fin 256 := ⟨128 + l.val, by omega⟩

variable (hw : ∀ l : Fin 128, w (ix3 0 r l) = a) (hm : ∀ l : Fin 128, m (ix3 0 r l) = b)

include hw in
theorem pay2_at (l : Fin 128) : k0_pay2 (F := Ideal) q k s w m (ix3 0 r l) = max (m (ix3 0 r l)) (max (sT q k s r a (lo l)) (sT q k s r a (hi l))) := by
  pointwise [k0_pay2]
  simp only [sT, named_kap, hw]

include hw in
theorem pay26_at (l : Fin 128) : k0_pay26 (F := Ideal) (k0_pay3 (F := Ideal) q) k s w m (ix3 0 r l) = max (m (ix3 0 r l)) (max (sT q k s r a (lo l)) (sT q k s r a (hi l))) := by
  pointwise [k0_pay26, k0_pay3]
  simp only [sT, named_kap, hw]

include hw in
theorem pay28_at (l : Fin 128) : k0_pay28 (F := Ideal) q k s w m (ix2 r l) = max (m (ix3 0 r l)) (max (sM q k s r a (lo l)) (sM q k s r a (hi l))) := by
  pointwise [k0_pay28]
  have hl := l.isLt
  have hr := r.isLt
  rw [sel_le _ _ (by omega) (by omega), sel_le _ _ (by omega) (by omega)]
  simp only [sM, sT, named_kap, neg_inf, hw]

include hw in
theorem pay30_at (l : Fin 128) : k0_pay30 (F := Ideal) q k s w m (ix2 r l) = max (m (ix3 0 r l)) (max (sM q k s r a (lo l)) (sM q k s r a (hi l))) := by
  pointwise [k0_pay30]
  have hl := l.isLt
  have hr := r.isLt
  rw [sel_le _ _ (by omega) (by omega), sel_le _ _ (by omega) (by omega)]
  simp only [sM, sT, named_kap, neg_inf, hw]

include hw hm in
theorem pay6_at (c : Fin 256) : k0_pay6 (F := Ideal) q k s w m (ix2 r c) = Ideal.exp2 (sT q k s r a c - b) := by
  pointwise [k0_pay6]
  simp only [sT, named_kap, hw, hm, dite_eq_ite, ite_self]
  try rfl

include hw hm in
theorem pay7_at (c : Fin 256) : k0_pay7 (F := Ideal) q k s w m (ix4 0 0 r c) = Ideal.exp2 (sT q k s r a c - b) := by
  pointwise [k0_pay7, k0_pay6]
  simp only [sT, named_kap, hw, hm, dite_eq_ite, ite_self]
  try rfl

include hw hm in
theorem pay11_at (c : Fin 256) : k0_pay11 (F := Ideal) q k s w m (ix2 r c) = Ideal.exp2 (sT q k s r a c - b) := by
  pointwise [k0_pay11]
  simp only [sT, named_kap, hw, hm, dite_eq_ite, ite_self]
  try rfl

include hw hm in
theorem pay12_at (c : Fin 256) : k0_pay12 (F := Ideal) q k s w m (ix4 0 0 r c) = Ideal.exp2 (sT q k s r a c - b) := by
  pointwise [k0_pay12, k0_pay11]
  simp only [sT, named_kap, hw, hm, dite_eq_ite, ite_self]
  try rfl

include hw hm in
theorem pay37_at (c : Fin 256) : k0_pay37 (F := Ideal) (k0_pay36 (F := Ideal) q) k s w m (ix2 r c) = Ideal.exp2 (sM q k s r a c - b) := by
  pointwise [k0_pay37, k0_pay36]
  have hc := c.isLt
  have hr := r.isLt
  rw [sel_le _ _ (by omega) (by omega)]
  simp only [sM, sT, named_kap, neg_inf, hw, hm, dite_eq_ite, ite_self]
  try rfl

include hw hm in
theorem pay38_at (c : Fin 256) : k0_pay38 (F := Ideal) (k0_pay36 (F := Ideal) q) k s w m (ix4 0 0 r c) = Ideal.exp2 (sM q k s r a c - b) := by
  pointwise [k0_pay38, k0_pay37, k0_pay36]
  have hc := c.isLt
  have hr := r.isLt
  rw [sel_le _ _ (by omega) (by omega)]
  simp only [sM, sT, named_kap, neg_inf, hw, hm, dite_eq_ite, ite_self]
  try rfl

include hw hm in
theorem pay40_at (c : Fin 256) : k0_pay40 (F := Ideal) q k s w m (ix2 r c) = Ideal.exp2 (sM q k s r a c - b) := by
  pointwise [k0_pay40]
  have hc := c.isLt
  have hr := r.isLt
  rw [sel_le _ _ (by omega) (by omega)]
  simp only [sM, sT, named_kap, neg_inf, hw, hm, dite_eq_ite, ite_self]
  try rfl

include hw hm in
theorem pay41_at (c : Fin 256) : k0_pay41 (F := Ideal) q k s w m (ix4 0 0 r c) = Ideal.exp2 (sM q k s r a c - b) := by
  pointwise [k0_pay41, k0_pay40]
  have hc := c.isLt
  have hr := r.isLt
  rw [sel_le _ _ (by omega) (by omega)]
  simp only [sM, sT, named_kap, neg_inf, hw, hm, dite_eq_ite, ite_self]
  try rfl

end

section
variable (m : FVec Ideal S1x256x128 .f32) (p : FVec Ideal S256x256 .f32) (r : Fin 256)

theorem pay10_at (u : FVec Ideal S256x128 .f32) (l : Fin 128) : k0_pay10 (F := Ideal) (k0_pay8 (F := Ideal) m) u (ix3 0 r l) = m (ix3 0 r l) + u (ix2 r l) := by
  pointwise [k0_pay10, k0_pay8]

theorem pay9_at (q k : FVec Ideal S1x1x256x128 .fp8e4m3) (s : FVec Ideal S1x1x1x256 .f32) (w m : FVec Ideal S1x256x128 .f32) (l : Fin 128) : k0_pay9 (F := Ideal) q k s w m (ix2 r l) = k0_pay6 (F := Ideal) q k s w m (ix2 r (lo l)) + k0_pay6 (F := Ideal) q k s w m (ix2 r (hi l)) := by
  pointwise [k0_pay9]

theorem pay34_at (l : Fin 128) : k0_pay34 (F := Ideal) p m (ix3 0 r l) = m (ix3 0 r l) + (p (ix2 r (lo l)) + p (ix2 r (hi l))) := by
  pointwise [k0_pay34]

theorem pay42_at (l : Fin 128) : k0_pay42 (F := Ideal) p m (ix3 0 r l) = m (ix3 0 r l) + (p (ix2 r (lo l)) + p (ix2 r (hi l))) := by
  pointwise [k0_pay42]

theorem pay39_at (q : FVec Ideal S256x128 .fp8e4m3) (k : FVec Ideal S1x1x256x128 .fp8e4m3) (s : FVec Ideal S1x1x1x256 .f32) (w m m2 : FVec Ideal S1x256x128 .f32) (l : Fin 128) : k0_pay39 (F := Ideal) q k s w m m2 (ix3 0 r l) = m2 (ix3 0 r l) + (k0_pay37 (F := Ideal) q k s w m (ix2 r (lo l)) + k0_pay37 (F := Ideal) q k s w m (ix2 r (hi l))) := by
  pointwise [k0_pay39]

theorem pay32_at (u : FVec Ideal S256x128 .f32) (l : Fin 128) : k0_pay32 (F := Ideal) (k0_pay29 (F := Ideal) u) (ix3 0 r l) = Finset.univ.fold max ⊥ fun k : Fin 128 => u (ix2 r k) := by
  pointwise [k0_pay32, k0_pay29]
  simp only [neg_inf]

theorem pay33_at (u : FVec Ideal S256x128 .f32) (l : Fin 128) : k0_pay33 (F := Ideal) (k0_pay31 (F := Ideal) u) (ix3 0 r l) = Finset.univ.fold max ⊥ fun k : Fin 128 => u (ix2 r k) := by
  pointwise [k0_pay33, k0_pay31]
  simp only [neg_inf]

theorem pay43_at : k0_pay43 (F := Ideal) m (ix2 r 0) = ∑ l : Fin 128, m (ix3 0 r l) := by
  pointwise [k0_pay43]

theorem pay44_at (m2 : FVec Ideal S1x256x128 .f32) (lam : EReal) (l : Fin 128) : k0_pay44 (F := Ideal) m m2 lam (ix3 0 r l) = Ideal.div (lam * ∑ l : Fin 128, m (ix3 0 r l)) (∑ l : Fin 128, m2 (ix3 0 r l)) := by
  pointwise [k0_pay44, k0_pay43]

theorem pay21_at (x : FVec Ideal S1x2x256 .f32) (l : Fin 128) : k0_pay21 (F := Ideal) x (ix3 0 r l) = x (ix3 0 0 r) := by
  pointwise [k0_pay21, k0_pay20]

theorem pay22_at (x : FVec Ideal S1x2x256 .f32) (l : Fin 128) : k0_pay22 (F := Ideal) x (ix3 0 r l) = x (ix3 0 1 r) := by
  pointwise [k0_pay22, k0_pay20]

theorem pay25_at (e : Fin 256) : k0_pay25 (F := Ideal) (ix2 r e) = 0 := by
  pointwise [k0_pay25]

theorem pay45_at (w : FVec Ideal S1x256x128 .f32) (e0 e1 : FVec Ideal S1x1x256x256 .f32) (v : FVec Ideal S1x256x256 .fp8e4m3) (c : FVec Ideal S256x256 .f32) (b : EReal)
    (hw : ∀ l : Fin 128, w (ix3 0 r l) = b) (e : Fin 256) : k0_pay45 (F := Ideal) w e0 e1 v c (ix2 r e) = c (ix2 r e) + ∑ t : Fin 256, (e0 (ix4 0 0 r t) - e1 (ix4 0 0 r t) * b) * v (ix3 0 t e) := by
  pointwise [k0_pay45]
  simp only [hw, dite_eq_ite, ite_self]
  exact congrArg (c (ix2 r e) + ·) (Fin.sum_univ_two_halves 128 128 rfl (fun t : Fin 256 => (e0 (ix4 0 0 r t) - e1 (ix4 0 0 r t) * b) * v (ix3 0 t e))).symm

theorem pay1_at (d : FVec Ideal S256x1 .f32) (vs : FVec Ideal S1x1x256 .f32) (g : FVec Ideal S1x256 .f32) (e : Fin 256) : k0_pay1 (F := Ideal) d p vs g (ix2 r e) =
    (p (ix2 r e) * vs (ix3 0 0 e) * Ideal.div 1 (d (ix2 r 0)))
      * Ideal.rsqrt (Ideal.div (∑ f : Fin 256, (p (ix2 r f) * vs (ix3 0 0 f) * Ideal.div 1 (d (ix2 r 0))) * (p (ix2 r f) * vs (ix3 0 0 f) * Ideal.div 1 (d (ix2 r 0))))
          (Ideal.ofBits .f32 0x43800000#32) + Ideal.ofBits .f32 0x3727C5AC#32)
      * (g (ix2 0 e) * Ideal.ofBits .f32 0x3EAAF212#32) := by
  pointwise [k0_pay1]

end

end Cert.KernelIdeal.Pure

end
-- ==== Proof.KernelRow.lean ====
/- The kernel's block of the result read at an index: one row of the attention by tiles. -/
module

public import proofs.«01_k».proof.Proof.KernelPure

@[expose] public section

set_option maxRecDepth 16384

noncomputable section

namespace Cert.KernelIdeal.Pure

open Idealize.ShloMosaic Idealize.ShloMosaic.TcCoe
open Cert.KernelIdeal Cert.KernelIdeal.Gen Cert.KernelIdeal.Body
open Cert.RowMath

/-! ## The tiles at an index -/

/-- Key `t` of tile `j`. -/
abbrev key (j t : ℕ) : Fin 16384 := ⟨256 * (j % 64) + t % 256, by omega⟩
abbrev til (j : ℕ) : Fin 64 := ⟨j % 64, Nat.mod_lt _ (by decide)⟩
abbrev wi (t : ℕ) : Fin 256 := ⟨t % 256, Nat.mod_lt _ (by decide)⟩

theorem wi_val (t : Fin 256) : wi t.val = t := Fin.ext (Nat.mod_eq_of_lt t.isLt)

theorem qT0_at (x1 : FVec Ideal S1x2x256x128 .fp8e4m3) (r : Fin 256) (d : Fin 128) : qT0 (F := Ideal) x1 (ix4 0 0 r d) = x1 (ix4 0 0 r d) := by
  refine congrArg x1 (funext fun a => Fin.ext ?_)
  fin_cases a
  · show 0 + 1 * 0 = 0; omega
  · show 0 + 1 * 0 = 0; omega
  · show 0 + 1 * r.val = r.val; omega
  · show 0 + 1 * d.val = d.val; omega
theorem kT0_at (x3 : FVec Ideal S1x2x16384x128 .fp8e4m3) (j : ℕ) (t : Fin 256) (d : Fin 128) :
    kT0 (F := Ideal) x3 j (ix4 0 0 t d) = x3 (ix4 0 0 (key j t.val) d) := by
  have ht := t.isLt
  refine congrArg x3 (funext fun a => Fin.ext ?_)
  fin_cases a
  · show 0 + 1 * 0 = 0; omega
  · show 0 + 1 * 0 = 0; omega
  · show 256 * (j % 64) + 1 * t.val = 256 * (j % 64) + t.val % 256; omega
  · show 0 + 1 * d.val = d.val; omega
theorem ksT0_at (x4 : FVec Ideal S1x2x64x256 .f32) (j : ℕ) (t : Fin 256) :
    ksT0 (F := Ideal) x4 j (ix4 0 0 0 t) = x4 (ix4 0 0 (til j) t) := by
  refine congrArg x4 (funext fun a => Fin.ext ?_)
  fin_cases a
  · show 0 + 1 * 0 = 0; omega
  · show 0 + 1 * 0 = 0; omega
  · show j % 64 + 1 * 0 = j % 64; omega
  · show 0 + 1 * t.val = t.val; omega
theorem qT1_at (x1 : FVec Ideal S1x2x256x128 .fp8e4m3) (r : Fin 256) (d : Fin 128) : qT1 (F := Ideal) x1 (ix4 0 0 r d) = x1 (ix4 0 1 r d) := by
  refine congrArg x1 (funext fun a => Fin.ext ?_)
  fin_cases a
  · show 0 + 1 * 0 = 0; omega
  · show 1 + 1 * 0 = 1; omega
  · show 0 + 1 * r.val = r.val; omega
  · show 0 + 1 * d.val = d.val; omega
theorem kT1_at (x3 : FVec Ideal S1x2x16384x128 .fp8e4m3) (j : ℕ) (t : Fin 256) (d : Fin 128) :
    kT1 (F := Ideal) x3 j (ix4 0 0 t d) = x3 (ix4 0 1 (key j t.val) d) := by
  have ht := t.isLt
  refine congrArg x3 (funext fun a => Fin.ext ?_)
  fin_cases a
  · show 0 + 1 * 0 = 0; omega
  · show 1 + 1 * 0 = 1; omega
  · show 256 * (j % 64) + 1 * t.val = 256 * (j % 64) + t.val % 256; omega
  · show 0 + 1 * d.val = d.val; omega
theorem ksT1_at (x4 : FVec Ideal S1x2x64x256 .f32) (j : ℕ) (t : Fin 256) :
    ksT1 (F := Ideal) x4 j (ix4 0 0 0 t) = x4 (ix4 0 1 (til j) t) := by
  refine congrArg x4 (funext fun a => Fin.ext ?_)
  fin_cases a
  · show 0 + 1 * 0 = 0; omega
  · show 1 + 1 * 0 = 1; omega
  · show j % 64 + 1 * 0 = j % 64; omega
  · show 0 + 1 * t.val = t.val; omega
theorem vT_at (x5 : FVec Ideal S1x16384x256 .fp8e4m3) (j : ℕ) (t e : Fin 256) : vT (F := Ideal) x5 j (ix3 0 t e) = x5 (ix3 0 (key j t.val) e) := by
  have ht := t.isLt
  refine congrArg x5 (funext fun a => Fin.ext ?_)
  fin_cases a
  · show 0 + 1 * 0 = 0; omega
  · show 256 * (j % 64) + 1 * t.val = 256 * (j % 64) + t.val % 256; omega
  · show 0 + 1 * e.val = e.val; omega

section
variable (n : ℕ) (x1 : FVec Ideal S1x2x256x128 .fp8e4m3) (x2 : FVec Ideal S1x2x256 .f32) (x3 : FVec Ideal S1x2x16384x128 .fp8e4m3)
  (x4 : FVec Ideal S1x2x64x256 .f32) (x5 : FVec Ideal S1x16384x256 .fp8e4m3) (x6 : FVec Ideal S1x1x256 .f32) (x7 : FVec Ideal S1x256 .f32)
  (lam : EReal) (r : Fin 256)

/-- Component `c`'s scaled score of the row at key `t` of tile `j`, -/
def sc (c : Fin 2) (j t : ℕ) : EReal :=
  ((∑ d : Fin 128, x1 (ix4 0 c r d) * x3 (ix4 0 c (key j t) d)) * (x4 (ix4 0 c (til j) (wi t)) * (kap : EReal))) * x2 (ix3 0 c r)
/-- masked in the cut tile. -/
def zz (c : Fin 2) (j t : ℕ) : EReal := if j < n ∨ t ≤ r.val then sc x1 x2 x3 x4 r c j t else ⊥

/-! ## Component 0 -/

theorem sT0 (j : ℕ) (hj : j < n) (t : Fin 256) :
    sT (qT0 (F := Ideal) x1) (kT0 (F := Ideal) x3 j) (ksT0 (F := Ideal) x4 j) r (x2 (ix3 0 0 r)) t = zz n x1 x2 x3 x4 r 0 j t.val := by
  unfold sT zz sc
  rw [if_pos (.inl hj), ksT0_at, wi_val]
  simp only [qT0_at, kT0_at]
theorem sM0 (t : Fin 256) :
    sM (qT0 (F := Ideal) x1) (kT0 (F := Ideal) x3 n) (ksT0 (F := Ideal) x4 n) r (x2 (ix3 0 0 r)) t = zz n x1 x2 x3 x4 r 0 n t.val := by
  unfold sM sT zz sc
  rw [ksT0_at, wi_val]
  simp only [qT0_at, kT0_at, lt_irrefl, false_or]

theorem mx0_at (k : ℕ) (hk : k ≤ n) (l : Fin 128) : mx0 (F := Ideal) x1 x2 x3 x4 k (ix3 0 r l) = tmx (zz n x1 x2 x3 x4 r 0) k l.val := by
  induction k with
  | zero => exact neg_inf
  | succ k ih =>
    refine (Pure.pay2_at _ _ _ _ _ r (x2 (ix3 0 0 r)) (fun l => pay21_at r x2 l) l).trans ?_
    rw [sT0 n x1 x2 x3 x4 r k hk, sT0 n x1 x2 x3 x4 r k hk, ih (Nat.le_of_succ_le hk)]
    rfl

theorem mz0_at (l : Fin 128) : mz0 (F := Ideal) n x1 x2 x3 x4 (ix2 r l) = tmx (zz n x1 x2 x3 x4 r 0) (n + 1) l.val := by
  refine (Pure.pay28_at _ _ _ _ _ r (x2 (ix3 0 0 r)) (fun l => pay21_at r x2 l) l).trans ?_
  rw [sM0 n x1 x2 x3 x4 r, sM0 n x1 x2 x3 x4 r, mx0_at n x1 x2 x3 x4 r n le_rfl]
  rfl

theorem mr0_at (l : Fin 128) : mr0 (F := Ideal) n x1 x2 x3 x4 (ix3 0 r l) = kmax n (zz n x1 x2 x3 x4 r 0) := by
  refine (Pure.pay32_at r _ l).trans ?_
  unfold kmax
  exact congrArg (Finset.univ.fold max ⊥) (funext fun k => mz0_at n x1 x2 x3 x4 r k)

theorem ex0_at (j : ℕ) (hj : j < n) (t : Fin 256) : ex0 (F := Ideal) n x1 x2 x3 x4 j (ix4 0 0 r t) = kexp n (zz n x1 x2 x3 x4 r 0) j t.val := by
  refine (Pure.pay7_at _ _ _ _ _ r (x2 (ix3 0 0 r)) _ (fun l => pay21_at r x2 l) (mr0_at n x1 x2 x3 x4 r) t).trans ?_
  rw [sT0 n x1 x2 x3 x4 r j hj]; rfl
theorem exZ0_at (t : Fin 256) : exZ0 (F := Ideal) n x1 x2 x3 x4 (ix4 0 0 r t) = kexp n (zz n x1 x2 x3 x4 r 0) n t.val := by
  refine (Pure.pay38_at _ _ _ _ _ r (x2 (ix3 0 0 r)) _ (fun l => pay21_at r x2 l) (mr0_at n x1 x2 x3 x4 r) t).trans ?_
  rw [sM0 n x1 x2 x3 x4 r]; rfl
theorem eT0_at (j : ℕ) (hj : j < n + 1) (t : Fin 256) : eT0 (F := Ideal) n x1 x2 x3 x4 j (ix4 0 0 r t) = kexp n (zz n x1 x2 x3 x4 r 0) j t.val := by
  unfold eT0
  by_cases h : j < n
  · rw [if_pos h]; exact ex0_at n x1 x2 x3 x4 r j h t
  · rw [if_neg h, show j = n by omega]; exact exZ0_at n x1 x2 x3 x4 r t

theorem sm0_at (k : ℕ) (hk : k ≤ n) (l : Fin 128) : sm0 (F := Ideal) n x1 x2 x3 x4 k (ix3 0 r l) = tsm (kexp n (zz n x1 x2 x3 x4 r 0)) k l.val := by
  induction k with
  | zero => exact Ideal.ofBits_zero_f32
  | succ k ih =>
    refine (pay10_at _ r _ l).trans ?_
    rw [pay9_at]
    rw [pay6_at _ _ _ _ _ r (x2 (ix3 0 0 r)) _ (fun l => pay21_at r x2 l) (mr0_at n x1 x2 x3 x4 r),
      pay6_at _ _ _ _ _ r (x2 (ix3 0 0 r)) _ (fun l => pay21_at r x2 l) (mr0_at n x1 x2 x3 x4 r),
      sT0 n x1 x2 x3 x4 r k hk, sT0 n x1 x2 x3 x4 r k hk, ih (Nat.le_of_succ_le hk)]
    rfl
theorem smZ0_at (l : Fin 128) : smZ0 (F := Ideal) n x1 x2 x3 x4 (ix3 0 r l) = tsm (kexp n (zz n x1 x2 x3 x4 r 0)) (n + 1) l.val := by
  refine (pay39_at r _ _ _ _ _ _ l).trans ?_
  rw [pay37_at _ _ _ _ _ r (x2 (ix3 0 0 r)) _ (fun l => pay21_at r x2 l) (mr0_at n x1 x2 x3 x4 r),
    pay37_at _ _ _ _ _ r (x2 (ix3 0 0 r)) _ (fun l => pay21_at r x2 l) (mr0_at n x1 x2 x3 x4 r),
    sM0 n x1 x2 x3 x4 r, sM0 n x1 x2 x3 x4 r, sm0_at n x1 x2 x3 x4 r n le_rfl]
  rfl

/-! ## Component 1 -/

theorem sT1 (j : ℕ) (hj : j < n) (t : Fin 256) :
    sT (qT1 (F := Ideal) x1) (kT1 (F := Ideal) x3 j) (ksT1 (F := Ideal) x4 j) r (x2 (ix3 0 1 r)) t = zz n x1 x2 x3 x4 r 1 j t.val := by
  unfold sT zz sc
  rw [if_pos (.inl hj), ksT1_at, wi_val]
  simp only [qT1_at, kT1_at]
theorem sM1 (t : Fin 256) :
    sM (qT1 (F := Ideal) x1) (kT1 (F := Ideal) x3 n) (ksT1 (F := Ideal) x4 n) r (x2 (ix3 0 1 r)) t = zz n x1 x2 x3 x4 r 1 n t.val := by
  unfold sM sT zz sc
  rw [ksT1_at, wi_val]
  simp only [qT1_at, kT1_at, lt_irrefl, false_or]

theorem mx1_at (k : ℕ) (hk : k ≤ n) (l : Fin 128) : mx1 (F := Ideal) x1 x2 x3 x4 k (ix3 0 r l) = tmx (zz n x1 x2 x3 x4 r 1) k l.val := by
  induction k with
  | zero => exact neg_inf
  | succ k ih =>
    refine (Pure.pay26_at _ _ _ _ _ r (x2 (ix3 0 1 r)) (fun l => pay22_at r x2 l) l).trans ?_
    rw [sT1 n x1 x2 x3 x4 r k hk, sT1 n x1 x2 x3 x4 r k hk, ih (Nat.le_of_succ_le hk)]
    rfl

theorem mz1_at (l : Fin 128) : mz1 (F := Ideal) n x1 x2 x3 x4 (ix2 r l) = tmx (zz n x1 x2 x3 x4 r 1) (n + 1) l.val := by
  refine (Pure.pay30_at _ _ _ _ _ r (x2 (ix3 0 1 r)) (fun l => pay22_at r x2 l) l).trans ?_
  rw [sM1 n x1 x2 x3 x4 r, sM1 n x1 x2 x3 x4 r, mx1_at n x1 x2 x3 x4 r n le_rfl]
  rfl

theorem mr1_at (l : Fin 128) : mr1 (F := Ideal) n x1 x2 x3 x4 (ix3 0 r l) = kmax n (zz n x1 x2 x3 x4 r 1) := by
  refine (Pure.pay33_at r _ l).trans ?_
  unfold kmax
  exact congrArg (Finset.univ.fold max ⊥) (funext fun k => mz1_at n x1 x2 x3 x4 r k)

theorem ex1_at (j : ℕ) (hj : j < n) (t : Fin 256) : ex1 (F := Ideal) n x1 x2 x3 x4 j (ix4 0 0 r t) = kexp n (zz n x1 x2 x3 x4 r 1) j t.val := by
  refine (Pure.pay12_at _ _ _ _ _ r (x2 (ix3 0 1 r)) _ (fun l => pay22_at r x2 l) (mr1_at n x1 x2 x3 x4 r) t).trans ?_
  rw [sT1 n x1 x2 x3 x4 r j hj]; rfl
theorem exZ1_at (t : Fin 256) : exZ1 (F := Ideal) n x1 x2 x3 x4 (ix4 0 0 r t) = kexp n (zz n x1 x2 x3 x4 r 1) n t.val := by
  refine (Pure.pay41_at _ _ _ _ _ r (x2 (ix3 0 1 r)) _ (fun l => pay22_at r x2 l) (mr1_at n x1 x2 x3 x4 r) t).trans ?_
  rw [sM1 n x1 x2 x3 x4 r]; rfl
theorem eT1_at (j : ℕ) (hj : j < n + 1) (t : Fin 256) : eT1 (F := Ideal) n x1 x2 x3 x4 j (ix4 0 0 r t) = kexp n (zz n x1 x2 x3 x4 r 1) j t.val := by
  unfold eT1
  by_cases h : j < n
  · rw [if_pos h]; exact ex1_at n x1 x2 x3 x4 r j h t
  · rw [if_neg h, show j = n by omega]; exact exZ1_at n x1 x2 x3 x4 r t

theorem sm1_at (k : ℕ) (hk : k ≤ n) (l : Fin 128) : sm1 (F := Ideal) n x1 x2 x3 x4 k (ix3 0 r l) = tsm (kexp n (zz n x1 x2 x3 x4 r 1)) k l.val := by
  induction k with
  | zero => exact Ideal.ofBits_zero_f32
  | succ k ih =>
    refine (pay34_at _ _ r l).trans ?_
    rw [pay11_at _ _ _ _ _ r (x2 (ix3 0 1 r)) _ (fun l => pay22_at r x2 l) (mr1_at n x1 x2 x3 x4 r),
      pay11_at _ _ _ _ _ r (x2 (ix3 0 1 r)) _ (fun l => pay22_at r x2 l) (mr1_at n x1 x2 x3 x4 r),
      sT1 n x1 x2 x3 x4 r k hk, sT1 n x1 x2 x3 x4 r k hk, ih (Nat.le_of_succ_le hk)]
    rfl
theorem smZ1_at (l : Fin 128) : smZ1 (F := Ideal) n x1 x2 x3 x4 (ix3 0 r l) = tsm (kexp n (zz n x1 x2 x3 x4 r 1)) (n + 1) l.val := by
  refine (pay42_at _ _ r l).trans ?_
  rw [pay40_at _ _ _ _ _ r (x2 (ix3 0 1 r)) _ (fun l => pay22_at r x2 l) (mr1_at n x1 x2 x3 x4 r),
    pay40_at _ _ _ _ _ r (x2 (ix3 0 1 r)) _ (fun l => pay22_at r x2 l) (mr1_at n x1 x2 x3 x4 r),
    sM1 n x1 x2 x3 x4 r, sM1 n x1 x2 x3 x4 r, sm1_at n x1 x2 x3 x4 r n le_rfl]
  rfl

/-! ## The row -/

theorem ksum0 : ∑ l : Fin 128, smZ0 (F := Ideal) n x1 x2 x3 x4 (ix3 0 r l) = ksum n (zz n x1 x2 x3 x4 r 0) :=
  Finset.sum_congr rfl fun l _ => smZ0_at n x1 x2 x3 x4 r l
theorem ksum1 : ∑ l : Fin 128, smZ1 (F := Ideal) n x1 x2 x3 x4 (ix3 0 r l) = ksum n (zz n x1 x2 x3 x4 r 1) :=
  Finset.sum_congr rfl fun l _ => smZ1_at n x1 x2 x3 x4 r l

theorem rW_at (l : Fin 128) : rW (F := Ideal) n x1 x2 x3 x4 lam (ix3 0 r l)
    = Ideal.div (lam * ksum n (zz n x1 x2 x3 x4 r 0)) (ksum n (zz n x1 x2 x3 x4 r 1)) := by
  refine (pay44_at _ r _ lam l).trans ?_
  rw [ksum0, ksum1]

/-- The values of column `e`. -/
def vv (e : Fin 256) (j t : ℕ) : EReal := x5 (ix3 0 (key j t) e)

theorem accV_at (e : Fin 256) (k : ℕ) (hk : k ≤ n + 1) : accV (F := Ideal) n x1 x2 x3 x4 x5 lam k (ix2 r e)
    = tac (fun j t => (kexp n (zz n x1 x2 x3 x4 r 0) j t - kexp n (zz n x1 x2 x3 x4 r 1) j t
        * Ideal.div (lam * ksum n (zz n x1 x2 x3 x4 r 0)) (ksum n (zz n x1 x2 x3 x4 r 1))) * vv x5 e j t) k := by
  induction k with
  | zero => exact pay25_at r e
  | succ k ih =>
    refine (pay45_at r _ _ _ _ _ _ (rW_at n x1 x2 x3 x4 lam r) e).trans ?_
    rw [ih (Nat.le_of_succ_le hk)]
    refine congrArg (_ + ·) (Finset.sum_congr rfl fun t _ => ?_)
    rw [eT0_at n x1 x2 x3 x4 r k hk, eT1_at n x1 x2 x3 x4 r k hk, vT_at]
    rfl

/-- The row before normalization. -/
def orow (e : Fin 256) : EReal := krow n (zz n x1 x2 x3 x4 r 0) (zz n x1 x2 x3 x4 r 1) (vv x5 e) lam (x6 (ix3 0 0 e))

/-- The block of the result at an index. -/
theorem outV_at (e : Fin 256) : outV (F := Ideal) n x1 x2 x3 x4 x5 x6 x7 lam (ix2 r e)
    = orow n x1 x2 x3 x4 x5 x6 lam r e
      * Ideal.rsqrt (Ideal.div (∑ f : Fin 256, orow n x1 x2 x3 x4 x5 x6 lam r f * orow n x1 x2 x3 x4 x5 x6 lam r f)
          (Ideal.ofBits .f32 0x43800000#32) + Ideal.ofBits .f32 0x3727C5AC#32)
      * (x7 (ix2 0 e) * Ideal.ofBits .f32 0x3EAAF212#32) := by
  have ho : ∀ f, accV (F := Ideal) n x1 x2 x3 x4 x5 lam (n + 1) (ix2 r f) * x6 (ix3 0 0 f)
      * Ideal.div 1 (k0_pay43 (F := Ideal) (smZ0 (F := Ideal) n x1 x2 x3 x4) (ix2 r 0)) = orow n x1 x2 x3 x4 x5 x6 lam r f := by
    intro f
    rw [pay43_at, ksum0, accV_at n x1 x2 x3 x4 x5 lam r f _ le_rfl]
    rfl
  refine (pay1_at _ r _ _ _ e).trans ?_
  rw [ho e, Finset.sum_congr rfl fun f _ => congrArg₂ (· * ·) (ho f) (ho f)]

end

end Cert.KernelIdeal.Pure

end
-- ==== Proof.RowSpec.lean ====
/- The whole computation row by row over the extended reals, as a function of the argument arrays read at coordinates; the kernel's
   tiled row is that row. -/
module

public import proofs.«01_k».proof.Proof.RowMath

@[expose] public section

noncomputable section

namespace Cert.RowMath

open Idealize.ShloMosaic

section
variable (Q K : Fin 16384 → Fin 28 → Fin 2 → Fin 128 → EReal) (QS KS : Fin 16384 → Fin 28 → Fin 2 → EReal)
  (V : Fin 16384 → Fin 28 → Fin 256 → EReal) (VS : Fin 28 → Fin 256 → EReal) (GN : Fin 256 → EReal) (lam ss : EReal)
  (h : Fin 28) (i : Fin 16384)

/-- A number as a key. -/
abbrev toKey (J : ℕ) : Fin 16384 := ⟨J % 16384, Nat.mod_lt _ (by decide)⟩
theorem toKey_val (J : Fin 16384) : toKey J.val = J := Fin.ext (Nat.mod_eq_of_lt J.isLt)

/-- The scaled score of query `i` against key `J`, -/
def score (c : Fin 2) (J : Fin 16384) : EReal := ((∑ d : Fin 128, Q i h c d * K J h c d) * QS i h c) * (KS J h c * ss)
/-- masked causally; -/
def xs (c : Fin 2) (J : ℕ) : EReal := if J ≤ i.val then score Q K QS KS ss h i c (toKey J) else ⊥
/-- the row's maximum; -/
def mm (c : Fin 2) : EReal := Finset.univ.fold max ⊥ fun J : Fin 16384 => xs Q K QS KS ss h i c J.val
/-- the row of the attention before normalization; -/
def oo (e : Fin 256) : EReal :=
  (∑ J ∈ Finset.range 16384, V (toKey J) h e * aa 16384 (xs Q K QS KS ss h i 0) (xs Q K QS KS ss h i 1) (mm Q K QS KS ss h i 0) (mm Q K QS KS ss h i 1) lam J)
    * VS h e
/-- and the result. -/
def yy (e : Fin 256) : EReal :=
  ((oo Q K QS KS V VS lam ss h i e
      * Ideal.rsqrt (Ideal.div (∑ f : Fin 256, oo Q K QS KS V VS lam ss h i f * oo Q K QS KS V VS lam ss h i f) (Ideal.ofBits .f32 0x43800000#32)
          + Ideal.ofBits .f32 0x3727C5AC#32))
    * GN e) * Ideal.ofBits .f32 0x3EAAF212#32

theorem mm_le (c : Fin 2) (b : EReal) : mm Q K QS KS ss h i c ≤ b ↔ ∀ J, J < 16384 → xs Q K QS KS ss h i c J ≤ b := by
  unfold mm
  rw [fold_max_le]
  exact ⟨fun H J hJ => H ⟨J, hJ⟩, fun H J => H J.val J.isLt⟩

/-- The kernel's scores of the row `r` of tile `n`. -/
def kz (n : ℕ) (r : Fin 256) (c : Fin 2) (j t : ℕ) : EReal :=
  if j < n ∨ t ≤ r.val then
    ((∑ d : Fin 128, Q i h c d * K ⟨256 * (j % 64) + t % 256, by omega⟩ h c d) * ((KS ⟨256 * (j % 64) + t % 256, by omega⟩ h c * ss) * (kap : EReal))) * QS i h c
  else ⊥

theorem kz_eq (n : ℕ) (hn : n < 64) (r : Fin 256) (hi : i.val = 256 * n + r.val) (c : Fin 2) (J : ℕ) (hJ : J < 256 * (n + 1)) :
    kz Q K QS KS ss h i n r c (J / 256) (J % 256) = xs Q K QS KS ss h i c J * (kap : EReal) := by
  have hr := r.isLt
  unfold kz xs
  have hk : (⟨256 * (J / 256 % 64) + J % 256 % 256, by omega⟩ : Fin 16384) = toKey J := Fin.ext (by show 256 * (J / 256 % 64) + J % 256 % 256 = J % 16384; omega)
  by_cases hv : J ≤ i.val
  · rw [if_pos hv, if_pos (by omega), hk]
    unfold score
    ac_rfl
  · rw [if_neg hv, if_neg (by omega), EReal.bot_mul_coe_of_pos kap_pos]

theorem xs_cut (n : ℕ) (r : Fin 256) (hi : i.val = 256 * n + r.val) (c : Fin 2) (J : ℕ) (hJ : 256 * (n + 1) ≤ J) :
    xs Q K QS KS ss h i c J = ⊥ := by
  have hr := r.isLt
  unfold xs
  rw [if_neg (by omega)]

/-- The kernel's row before normalization is the row. -/
theorem krow_oo (n : ℕ) (hn : n < 64) (r : Fin 256) (hi : i.val = 256 * n + r.val) (e : Fin 256) :
    krow n (kz Q K QS KS ss h i n r 0) (kz Q K QS KS ss h i n r 1) (fun j t => V ⟨256 * (j % 64) + t % 256, by omega⟩ h e) lam (VS h e)
      = oo Q K QS KS V VS lam ss h i e := by
  unfold oo
  refine krow_eq (by omega) (xs_cut Q K QS KS ss h i n r hi 0) (xs_cut Q K QS KS ss h i n r hi 1) (mm_le Q K QS KS ss h i 0) (mm_le Q K QS KS ss h i 1)
    (kz_eq Q K QS KS ss h i n hn r hi 0) (kz_eq Q K QS KS ss h i n hn r hi 1) fun J hJ => ?_
  exact congrArg (V · h e) (Fin.ext (by show 256 * (J / 256 % 64) + J % 256 % 256 = J % 16384; omega))

/-- The kernel's row is the row. -/
theorem krow_yy (n : ℕ) (hn : n < 64) (r : Fin 256) (hi : i.val = 256 * n + r.val) (e : Fin 256) (O : Fin 256 → EReal)
    (hO : ∀ f, O f = krow n (kz Q K QS KS ss h i n r 0) (kz Q K QS KS ss h i n r 1) (fun j t => V ⟨256 * (j % 64) + t % 256, by omega⟩ h f) lam (VS h f)) :
    O e * Ideal.rsqrt (Ideal.div (∑ f : Fin 256, O f * O f) (Ideal.ofBits .f32 0x43800000#32) + Ideal.ofBits .f32 0x3727C5AC#32)
        * (GN e * Ideal.ofBits .f32 0x3EAAF212#32)
      = yy Q K QS KS V VS GN lam ss h i e := by
  have hO' : O = oo Q K QS KS V VS lam ss h i := funext fun f => (hO f).trans (krow_oo Q K QS KS V VS lam ss h i n hn r hi f)
  subst hO'
  unfold yy
  rw [← mul_assoc]

end

end Cert.RowMath

end
-- ==== Proof.KernelHost.lean ====
/- The kernel's result array over the extended reals: what the host operations before the region make of the arguments, the blocks
   of each window at an index, and the array after the run. -/
module

public import proofs.«01_k».proof.Proof.IdealValue
public import proofs.«01_k».proof.Proof.KernelRow
public import proofs.«01_k».proof.Proof.RowSpec
public import Idealize.ShloMosaic.Lib.Pointwise
public import Idealize.ShloMosaic.Lib.Pipeline.Value

@[expose] public section

set_option maxRecDepth 16384

noncomputable section

namespace Cert.KernelIdeal.Arr

open Idealize.ShloMosaic Idealize.ShloMosaic.TcCoe Idealize.SL.Sem
open Idealize.ShloMosaic.Pipeline (Dat)
open Cert.KernelIdeal Cert.KernelIdeal.Gen
open Cert.KernelIdeal.Val (dats oblk)
open Cert.RowMath

variable (m : (ℓ : Loc nD τ sig) → Buf (Elt Ideal) ℓ)

/-! ## The arguments at coordinates -/

/-- Argument `arg` of device `c` as a vector. -/
abbrev A0 (c : Dev nD) : FVec Ideal S1x16384x28x2x128 .fp8e4m3 := m ((c : Thread nD τ).loc main_arg0)
abbrev A1 (c : Dev nD) : FVec Ideal S1x16384x28x2 .f32 := m ((c : Thread nD τ).loc main_arg1)
abbrev A2 (c : Dev nD) : FVec Ideal S1x16384x28x2x128 .fp8e4m3 := m ((c : Thread nD τ).loc main_arg2)
abbrev A3 (c : Dev nD) : FVec Ideal S1x16384x28x2 .f32 := m ((c : Thread nD τ).loc main_arg3)
abbrev A4 (c : Dev nD) : FVec Ideal S1x16384x28x256 .fp8e4m3 := m ((c : Thread nD τ).loc main_arg4)
abbrev A5 (c : Dev nD) : FVec Ideal S28x256 .f32 := m ((c : Thread nD τ).loc main_arg5)
abbrev A6 (c : Dev nD) : FVec Ideal S128 .f32 := m ((c : Thread nD τ).loc main_arg6)
abbrev A7 (c : Dev nD) : FVec Ideal S128 .f32 := m ((c : Thread nD τ).loc main_arg7)
abbrev A8 (c : Dev nD) : FVec Ideal S128 .f32 := m ((c : Thread nD τ).loc main_arg8)
abbrev A9 (c : Dev nD) : FVec Ideal S128 .f32 := m ((c : Thread nD τ).loc main_arg9)
abbrev A10 (c : Dev nD) : FVec Ideal S256 .f32 := m ((c : Thread nD τ).loc main_arg10)

def fQ (x : FVec Ideal S1x16384x28x2x128 .fp8e4m3) (i : Fin 16384) (h : Fin 28) (cc : Fin 2) (d : Fin 128) : EReal := x (ix5 0 i h cc d)
def fS (x : FVec Ideal S1x16384x28x2 .f32) (i : Fin 16384) (h : Fin 28) (cc : Fin 2) : EReal := x (ix4 0 i h cc)
def fV (x : FVec Ideal S1x16384x28x256 .fp8e4m3) (i : Fin 16384) (h : Fin 28) (e : Fin 256) : EReal := x (ix4 0 i h e)
def fW (x : FVec Ideal S28x256 .f32) (h : Fin 28) (e : Fin 256) : EReal := x (ix2 h e)
def fG (x : FVec Ideal S256 .f32) (e : Fin 256) : EReal := x (ix1 e)
/-- The scores' scale. -/
abbrev ss : EReal := Ideal.ofBits .f32 0x3DB504F3#32

/-- The host's scalar. -/
def lamT (a6 a7 a8 a9 : FVec Ideal S128 .f32) : FVec Ideal S_ .f32 :=
  addf (subf (Host.exp (Host.reduceAdd (mulf a6 a7) (constant S_ .f32 0x00000000#32) reducesTo_S128_S_d0 h_S_))
    (Host.exp (Host.reduceAdd (mulf a8 a9) (constant S_ .f32 0x00000000#32) reducesTo_S128_S_d0 h_S_))) (constant S_ .f32 0x3F2A86F7#32)
def lamF (a6 a7 a8 a9 : FVec Ideal S128 .f32) : EReal := lamT a6 a7 a8 a9 (Shape.Idx.first h_S_)

/-! ## The arrays the region finds -/

theorem V_v8 (c : Dev nD) : V m c main_v8 = shapeCast S1x1 (lamT (A6 m c) (A7 m c) (A8 m c) (A9 m c)) shapeCasts_S_S1x1 := by
  unfold V V0
  simp only [List.flatten_cons, List.flatten_nil, List.append_nil]
  after_results
  rfl
theorem V_v10 (c : Dev nD) : V m c main_v10 = transpose S28x2x16384x128 [1, 2, 0, 3] (shapeCast S16384x28x2x128 (A0 m c) shapeCasts_S1x16384x28x2x128_S16384x28x2x128) transposes_S16384x28x2x128_S28x2x16384x128_1_2_0_3 := by
  unfold V V0
  simp only [List.flatten_cons, List.flatten_nil, List.append_nil]
  after_results
  rfl
theorem V_v12 (c : Dev nD) : V m c main_v12 = transpose S28x2x16384x128 [1, 2, 0, 3] (shapeCast S16384x28x2x128 (A2 m c) shapeCasts_S1x16384x28x2x128_S16384x28x2x128) transposes_S16384x28x2x128_S28x2x16384x128_1_2_0_3 := by
  unfold V V0
  simp only [List.flatten_cons, List.flatten_nil, List.append_nil]
  after_results
  rfl
theorem V_v14 (c : Dev nD) : V m c main_v14 = transpose S28x16384x256 [1, 0, 2] (shapeCast S16384x28x256 (A4 m c) shapeCasts_S1x16384x28x256_S16384x28x256) transposes_S16384x28x256_S28x16384x256_1_0_2 := by
  unfold V V0
  simp only [List.flatten_cons, List.flatten_nil, List.append_nil]
  after_results
  rfl
theorem V_v16 (c : Dev nD) : V m c main_v16 = transpose S28x2x16384 [1, 2, 0] (shapeCast S16384x28x2 (A1 m c) shapeCasts_S1x16384x28x2_S16384x28x2) transposes_S16384x28x2_S28x2x16384_1_2_0 := by
  unfold V V0
  simp only [List.flatten_cons, List.flatten_nil, List.append_nil]
  after_results
  rfl
theorem V_v21 (c : Dev nD) : V m c main_v21 = shapeCast S28x2x64x256 (mulf (transpose S28x2x16384 [1, 2, 0] (shapeCast S16384x28x2 (A3 m c) shapeCasts_S1x16384x28x2_S16384x28x2) transposes_S16384x28x2_S28x2x16384_1_2_0) (broadcastInDim S28x2x16384 ![] bcast_S_S28x2x16384 (constant (F := Ideal) S_ .f32 0x3DB504F3#32))) shapeCasts_S28x2x16384_S28x2x64x256 := by
  unfold V V0
  simp only [List.flatten_cons, List.flatten_nil, List.append_nil]
  after_results
  rfl
theorem V_v22 (c : Dev nD) : V m c main_v22 = shapeCast S28x1x256 (A5 m c) shapeCasts_S28x256_S28x1x256 := by
  unfold V V0
  simp only [List.flatten_cons, List.flatten_nil, List.append_nil]
  after_results
  rfl
theorem V_v23 (c : Dev nD) : V m c main_v23 = shapeCast S1x256 (A10 m c) shapeCasts_S256_S1x256 := by
  unfold V V0
  simp only [List.flatten_cons, List.flatten_nil, List.append_nil]
  after_results
  rfl

theorem tq_at (x : FVec Ideal S1x16384x28x2x128 .fp8e4m3) (h : Fin 28) (cc : Fin 2) (i : Fin 16384) (d : Fin 128) :
    transpose S28x2x16384x128 [1, 2, 0, 3] (shapeCast S16384x28x2x128 x shapeCasts_S1x16384x28x2x128_S16384x28x2x128) transposes_S16384x28x2x128_S28x2x16384x128_1_2_0_3 (ix4 h cc i d) = fQ x i h cc d := by
  pointwise [fQ]
theorem ts_at (x : FVec Ideal S1x16384x28x2 .f32) (h : Fin 28) (cc : Fin 2) (i : Fin 16384) :
    transpose S28x2x16384 [1, 2, 0] (shapeCast S16384x28x2 x shapeCasts_S1x16384x28x2_S16384x28x2) transposes_S16384x28x2_S28x2x16384_1_2_0 (ix3 h cc i) = fS x i h cc := by
  pointwise [fS]
theorem tv_at (x : FVec Ideal S1x16384x28x256 .fp8e4m3) (h : Fin 28) (i : Fin 16384) (e : Fin 256) :
    transpose S28x16384x256 [1, 0, 2] (shapeCast S16384x28x256 x shapeCasts_S1x16384x28x256_S16384x28x256) transposes_S16384x28x256_S28x16384x256_1_0_2 (ix3 h i e) = fV x i h e := by
  pointwise [fV]
theorem tk_at (x : FVec Ideal S1x16384x28x2 .f32) (h : Fin 28) (cc : Fin 2) (j t : ℕ) :
    shapeCast S28x2x64x256 (mulf (transpose S28x2x16384 [1, 2, 0] (shapeCast S16384x28x2 x shapeCasts_S1x16384x28x2_S16384x28x2) transposes_S16384x28x2_S28x2x16384_1_2_0) (broadcastInDim S28x2x16384 ![] bcast_S_S28x2x16384 (constant (F := Ideal) S_ .f32 0x3DB504F3#32))) shapeCasts_S28x2x16384_S28x2x64x256 (ix4 h cc (Pure.til j) (Pure.wi t)) = fS x ⟨256 * (j % 64) + t % 256, by omega⟩ h cc * ss := by
  pointwise [fS]
  refine congrArg (· * ss) (congrArg (fun k => x (ix4 0 k h cc)) (Fin.ext ?_))
  show j % 64 * 256 + t % 256 = 256 * (j % 64) + t % 256
  omega
theorem tw_at (x : FVec Ideal S28x256 .f32) (h : Fin 28) (e : Fin 256) : shapeCast S28x1x256 x shapeCasts_S28x256_S28x1x256 (ix3 h 0 e) = fW x h e := by
  pointwise [fW]
theorem tg_at (x : FVec Ideal S256 .f32) (e : Fin 256) : shapeCast S1x256 x shapeCasts_S256_S1x256 (ix2 0 e) = fG x e := by
  pointwise [fG]
theorem tl_at (x : FVec Ideal S_ .f32) : shapeCast S1x1 x shapeCasts_S_S1x1 (ix2 0 0) = x (Shape.Idx.first h_S_) := by
  pointwise
  try exact congrArg x (funext fun a => a.elim0)

end Cert.KernelIdeal.Arr

end
-- ==== Proof.KernelArray.lean ====
/- The kernel's blocks read from its arguments, and its result array after the run. -/
module

public import proofs.«01_k».proof.Proof.KernelHost
public import Idealize.ShloMosaic.Lib.Pipeline.Covers

@[expose] public section

set_option maxRecDepth 16384

noncomputable section

namespace Cert.KernelIdeal.Arr

open Idealize.ShloMosaic Idealize.ShloMosaic.TcCoe Idealize.SL.Sem
open Idealize.ShloMosaic.Pipeline (Dat)
open Cert.KernelIdeal Cert.KernelIdeal.Gen
open Cert.KernelIdeal.Val (dats oblk)
open Cert.RowMath

variable (m : (ℓ : Loc nD τ sig) → Buf (Elt Ideal) ℓ)

/-- The head and the query tile of a grid point. -/
abbrev hd (t : Fin cfg0.N) : Fin 28 := ⟨(grid0.coords t 0).val, (grid0.coords t 0).isLt⟩
abbrev qt (t : Fin cfg0.N) : ℕ := (grid0.coords t 1).val
theorem qt_lt (t : Fin cfg0.N) : qt t < 64 := (grid0.coords t 1).isLt
theorem hd_lt (t : Fin cfg0.N) : (grid0.coords t 0).val < 28 := (grid0.coords t 0).isLt
/-- Row `r` of the point's tile. -/
abbrev row (t : Fin cfg0.N) (r : Fin 256) : Fin 16384 := ⟨256 * qt t + r.val, by have := qt_lt t; have := r.isLt; omega⟩

theorem w0 (t : Fin cfg0.N) : (BitVec.ofNat 32 (grid0.coords t 0).val).toNat = (grid0.coords t 0).val := by
  have := hd_lt t; rw [BitVec.toNat_ofNat]; omega
theorem w1 (t : Fin cfg0.N) : (BitVec.ofNat 32 (grid0.coords t 1).val).toNat = (grid0.coords t 1).val := by
  have h : (grid0.coords t 1).val < 64 := qt_lt t; rw [BitVec.toNat_ofNat]; omega

/-! ## The blocks -/

theorem blk0 (c : Dev nD) (t : Fin cfg0.N)  :
    (show FVec Ideal S1x1 .f32 from iblk m c 0 t) (ix2 0 0) = lamF (A6 m c) (A7 m c) (A8 m c) (A9 m c) := by
  have h0 := w0 t
  have h1 := w1 t
  refine (congrArg (V m c main_v8) (funext fun a => Fin.ext ?_ : _ = ix2 0 0)).trans ?_
  · fin_cases a
    · show 0 * 1 + 1 * 0 = 0; omega
    · show 0 * 1 + 1 * 0 = 0; omega
  · rw [V_v8]; exact tl_at _
theorem blk1 (c : Dev nD) (t : Fin cfg0.N) (cc : Fin 2) (r : Fin 256) (d : Fin 128) :
    (show FVec Ideal S1x2x256x128 .fp8e4m3 from iblk m c 1 t) (ix4 0 cc r d) = fQ (A0 m c) (row t r) (hd t) cc d := by
  have h0 := w0 t
  have h1 := w1 t
  refine (congrArg (V m c main_v10) (funext fun a => Fin.ext ?_ : _ = ix4 (hd t) cc (row t r) d)).trans ?_
  · fin_cases a
    · show (BitVec.ofNat 32 (grid0.coords t 0).val).toNat * 1 + 1 * 0 = (grid0.coords t 0).val; omega
    · show 0 * 2 + 1 * cc.val = cc.val; omega
    · show (BitVec.ofNat 32 (grid0.coords t 1).val).toNat * 256 + 1 * r.val = 256 * (grid0.coords t 1).val + r.val; omega
    · show 0 * 128 + 1 * d.val = d.val; omega
  · rw [V_v10]; exact tq_at _ _ _ _ _
theorem blk2 (c : Dev nD) (t : Fin cfg0.N) (cc : Fin 2) (r : Fin 256) :
    (show FVec Ideal S1x2x256 .f32 from iblk m c 2 t) (ix3 0 cc r) = fS (A1 m c) (row t r) (hd t) cc := by
  have h0 := w0 t
  have h1 := w1 t
  refine (congrArg (V m c main_v16) (funext fun a => Fin.ext ?_ : _ = ix3 (hd t) cc (row t r))).trans ?_
  · fin_cases a
    · show (BitVec.ofNat 32 (grid0.coords t 0).val).toNat * 1 + 1 * 0 = (grid0.coords t 0).val; omega
    · show 0 * 2 + 1 * cc.val = cc.val; omega
    · show (BitVec.ofNat 32 (grid0.coords t 1).val).toNat * 256 + 1 * r.val = 256 * (grid0.coords t 1).val + r.val; omega
  · rw [V_v16]; exact ts_at _ _ _ _
theorem blk3 (c : Dev nD) (t : Fin cfg0.N) (cc : Fin 2) (J : Fin 16384) (d : Fin 128) :
    (show FVec Ideal S1x2x16384x128 .fp8e4m3 from iblk m c 3 t) (ix4 0 cc J d) = fQ (A2 m c) J (hd t) cc d := by
  have h0 := w0 t
  have h1 := w1 t
  refine (congrArg (V m c main_v12) (funext fun a => Fin.ext ?_ : _ = ix4 (hd t) cc J d)).trans ?_
  · fin_cases a
    · show (BitVec.ofNat 32 (grid0.coords t 0).val).toNat * 1 + 1 * 0 = (grid0.coords t 0).val; omega
    · show 0 * 2 + 1 * cc.val = cc.val; omega
    · show 0 * 16384 + 1 * J.val = J.val; omega
    · show 0 * 128 + 1 * d.val = d.val; omega
  · rw [V_v12]; exact tq_at _ _ _ _ _
theorem blk4 (c : Dev nD) (t : Fin cfg0.N) (cc : Fin 2) (j k : ℕ) :
    (show FVec Ideal S1x2x64x256 .f32 from iblk m c 4 t) (ix4 0 cc (Pure.til j) (Pure.wi k)) = fS (A3 m c) ⟨256 * (j % 64) + k % 256, by omega⟩ (hd t) cc * ss := by
  have h0 := w0 t
  have h1 := w1 t
  refine (congrArg (V m c main_v21) (funext fun a => Fin.ext ?_ : _ = ix4 (hd t) cc (Pure.til j) (Pure.wi k))).trans ?_
  · fin_cases a
    · show (BitVec.ofNat 32 (grid0.coords t 0).val).toNat * 1 + 1 * 0 = (grid0.coords t 0).val; omega
    · show 0 * 2 + 1 * cc.val = cc.val; omega
    · show 0 * 64 + 1 * (j % 64) = j % 64; omega
    · show 0 * 256 + 1 * (k % 256) = k % 256; omega
  · rw [V_v21]; exact tk_at _ _ _ _ _
theorem blk5 (c : Dev nD) (t : Fin cfg0.N) (J : Fin 16384) (e : Fin 256) :
    (show FVec Ideal S1x16384x256 .fp8e4m3 from iblk m c 5 t) (ix3 0 J e) = fV (A4 m c) J (hd t) e := by
  have h0 := w0 t
  have h1 := w1 t
  refine (congrArg (V m c main_v14) (funext fun a => Fin.ext ?_ : _ = ix3 (hd t) J e)).trans ?_
  · fin_cases a
    · show (BitVec.ofNat 32 (grid0.coords t 0).val).toNat * 1 + 1 * 0 = (grid0.coords t 0).val; omega
    · show 0 * 16384 + 1 * J.val = J.val; omega
    · show 0 * 256 + 1 * e.val = e.val; omega
  · rw [V_v14]; exact tv_at _ _ _ _
theorem blk6 (c : Dev nD) (t : Fin cfg0.N) (e : Fin 256) :
    (show FVec Ideal S1x1x256 .f32 from iblk m c 6 t) (ix3 0 0 e) = fW (A5 m c) (hd t) e := by
  have h0 := w0 t
  have h1 := w1 t
  refine (congrArg (V m c main_v22) (funext fun a => Fin.ext ?_ : _ = ix3 (hd t) 0 e)).trans ?_
  · fin_cases a
    · show (BitVec.ofNat 32 (grid0.coords t 0).val).toNat * 1 + 1 * 0 = (grid0.coords t 0).val; omega
    · show 0 * 1 + 1 * 0 = 0; omega
    · show 0 * 256 + 1 * e.val = e.val; omega
  · rw [V_v22]; exact tw_at _ _ _
theorem blk7 (c : Dev nD) (t : Fin cfg0.N) (e : Fin 256) :
    (show FVec Ideal S1x256 .f32 from iblk m c 7 t) (ix2 0 e) = fG (A10 m c) e := by
  have h0 := w0 t
  have h1 := w1 t
  refine (congrArg (V m c main_v23) (funext fun a => Fin.ext ?_ : _ = ix2 0 e)).trans ?_
  · fin_cases a
    · show 0 * 1 + 1 * 0 = 0; omega
    · show 0 * 256 + 1 * e.val = e.val; omega
  · rw [V_v23]; exact tg_at _ _

/-! ## The block of the result -/

/-- The result at a query, a head and a column, from the arguments. -/
def out (c : Dev nD) (h : Fin 28) (i : Fin 16384) (e : Fin 256) : EReal :=
  yy (fQ (A0 m c)) (fQ (A2 m c)) (fS (A1 m c)) (fS (A3 m c)) (fV (A4 m c)) (fW (A5 m c)) (fG (A10 m c)) (lamF (A6 m c) (A7 m c) (A8 m c) (A9 m c)) ss h i e

theorem zz_eq (c : Dev nD) (t : Fin cfg0.N) (r : Fin 256) (cc : Fin 2) :
    Pure.zz (qt t) (iblk m c 1 t) (iblk m c 2 t) (iblk m c 3 t) (iblk m c 4 t) r cc
      = kz (fQ (A0 m c)) (fQ (A2 m c)) (fS (A1 m c)) (fS (A3 m c)) ss (hd t) (row t r) (qt t) r cc := by
  funext j k
  unfold Pure.zz kz Pure.sc
  have e1 : ∀ d, (show FVec Ideal S1x2x256x128 .fp8e4m3 from iblk m c 1 t) (ix4 0 cc r d) * (show FVec Ideal S1x2x16384x128 .fp8e4m3 from iblk m c 3 t) (ix4 0 cc (Pure.key j k) d)
      = fQ (A0 m c) (row t r) (hd t) cc d * fQ (A2 m c) (Pure.key j k) (hd t) cc d := fun d => by rw [blk1, blk3]
  refine if_congr Iff.rfl ?_ rfl
  exact congrArg₂ (· * ·) (congrArg₂ (· * ·) (Finset.sum_congr rfl fun d _ => e1 d) (congrArg (· * (kap : EReal)) (blk4 m c t cc j k))) (blk2 m c t cc r)

theorem oblk_at (c : Dev nD) (t : Fin cfg0.N) (r e : Fin 256) : oblk m c t (ix2 r e) = out m c (hd t) (row t r) e := by
  unfold oblk out
  refine (Pure.outV_at _ _ _ _ _ _ _ _ _ r e).trans ?_
  have hg : (show FVec Ideal S1x256 .f32 from iblk m c 7 t) (ix2 0 e) = fG (A10 m c) e := blk7 m c t e
  refine (congrArg (fun g : EReal => _ * (g * Ideal.ofBits .f32 0x3EAAF212#32)) hg).trans ?_
  refine krow_yy _ _ _ _ _ _ _ _ _ _ _ (qt t) (qt_lt t) r rfl e _ fun f => ?_
  unfold Pure.orow
  have hl : Body.k0_lam (F := Ideal) (iblk m c 0 t) = lamF (A6 m c) (A7 m c) (A8 m c) (A9 m c) := blk0 m c t
  have hv : Pure.vv (iblk m c 5 t) f = fun j k => fV (A4 m c) ⟨256 * (j % 64) + k % 256, by omega⟩ (hd t) f :=
    funext fun j => funext fun k => blk5 m c t _ f
  have hw : (show FVec Ideal S1x1x256 .f32 from iblk m c 6 t) (ix3 0 0 f) = fW (A5 m c) (hd t) f := blk6 m c t f
  rw [zz_eq, zz_eq, hl, hv]
  exact congrArg (krow _ _ _ _ _) hw

/-! ## The array after the run -/

/-- The whole result array. -/
def G (c : Dev nD) : FVec Ideal S16384x7168 .bf16 := fun u =>
  out m c ⟨(u 1).val / 256, by have h : (u 1).val < 7168 := (u 1).isLt; omega⟩ ⟨(u 0).val, (u 0).isLt⟩ ⟨(u 1).val % 256, by omega⟩

theorem flushed_eq (c : Dev nD) (t : Fin cfg0.N) : (dats m 0 c).flushed 8 t = (win0_8.blk t).view.read (Elt Ideal) (G m c) := by
  show (cfg0.win 8).cut (grid0.coords t) ((dats m 0 c).after 8 t) = _
  rw [Val.after0_8]
  funext u
  have h0 := w0 t
  have h1 := w1 t
  have hu0 : (u 0).val < 256 := (u 0).isLt
  have hu1 : (u 1).val < 256 := (u 1).isLt
  show oblk m c t (ix2 (⟨(u 0).val, hu0⟩ : Fin 256) (⟨(u 1).val, hu1⟩ : Fin 256)) = out m c ⟨((BitVec.ofNat 32 (grid0.coords t 0).val).toNat * 256 + 1 * (u 1).val) / 256, _⟩
    ⟨(BitVec.ofNat 32 (grid0.coords t 1).val).toNat * 256 + 1 * (u 0).val, _⟩ ⟨((BitVec.ofNat 32 (grid0.coords t 0).val).toNat * 256 + 1 * (u 1).val) % 256, _⟩
  rw [oblk_at]
  have e0 : (hd t) = ⟨((BitVec.ofNat 32 (grid0.coords t 0).val).toNat * 256 + 1 * (u 1).val) / 256, by have := hd_lt t; omega⟩ := Fin.ext (by show (grid0.coords t 0).val = ((BitVec.ofNat 32 (grid0.coords t 0).val).toNat * 256 + 1 * (u 1).val) / 256; omega)
  have e1 : row t ⟨(u 0).val, hu0⟩ = ⟨(BitVec.ofNat 32 (grid0.coords t 1).val).toNat * 256 + 1 * (u 0).val, by have h : (grid0.coords t 1).val < 64 := qt_lt t; omega⟩ := Fin.ext (by show 256 * (grid0.coords t 1).val + (u 0).val = (BitVec.ofNat 32 (grid0.coords t 1).val).toNat * 256 + 1 * (u 0).val; omega)
  have e2 : (⟨(u 1).val, hu1⟩ : Fin 256) = ⟨((BitVec.ofNat 32 (grid0.coords t 0).val).toNat * 256 + 1 * (u 1).val) % 256, by omega⟩ := Fin.ext (by show (u 1).val = ((BitVec.ofNat 32 (grid0.coords t 0).val).toNat * 256 + 1 * (u 1).val) % 256; omega)
  rw [e0, e1, e2]

/-- A point's block of the result array: its rows and its columns. -/
theorem mem_blk (t : Fin cfg0.N) (i : S16384x7168.Idx) (h0 : 256 * qt t ≤ (i 0).val ∧ (i 0).val < 256 * qt t + 256)
    (h1 : 256 * (hd t).val ≤ (i 1).val ∧ (i 1).val < 256 * (hd t).val + 256) : i ∈ ((cfg0.win 8).blk t).view.set := by
  show i ∈ ((View.whole main_v24).slice (win0_8.rect t)).set
  rw [View.set_slice_whole, Rect.mem_set_unit]
  have e0 := w0 t
  have e1 := w1 t
  intro a
  match a with
  | ⟨0, _⟩ =>
    show (BitVec.ofNat 32 (grid0.coords t 1).val).toNat * 256 ≤ (i 0).val ∧ (i 0).val < (BitVec.ofNat 32 (grid0.coords t 1).val).toNat * 256 + 256
    rw [e1]
    have h0' : 256 * (grid0.coords t 1).val ≤ (i 0).val ∧ (i 0).val < 256 * (grid0.coords t 1).val + 256 := h0
    omega
  | ⟨1, _⟩ =>
    show (BitVec.ofNat 32 (grid0.coords t 0).val).toNat * 256 ≤ (i 1).val ∧ (i 1).val < (BitVec.ofNat 32 (grid0.coords t 0).val).toNat * 256 + 256
    rw [e0]
    have h1' : 256 * (grid0.coords t 0).val ≤ (i 1).val ∧ (i 1).val < 256 * (grid0.coords t 0).val + 256 := h1
    omega

/-- Every entry of the result array is in some point's block. -/
theorem cover (i : S16384x7168.Idx) : ∃ t : Fin cfg0.N, (cfg0.win 8).flush t = true ∧ i ∈ ((cfg0.win 8).blk t).view.set := by
  have b0 : (i 0).val < 16384 := (i 0).isLt
  have b1 : (i 1).val < 7168 := (i 1).isLt
  obtain ⟨t, ht⟩ := Pipeline.Grid.coords_surjective grid0 (fun a => match a with
    | ⟨0, _⟩ => (⟨(i 1).val / 256, by show _ < 28; omega⟩ : Fin 28)
    | ⟨1, _⟩ => (⟨(i 0).val / 256, by show _ < 64; omega⟩ : Fin 64))
  have c0 : (hd t).val = (i 1).val / 256 := by show (grid0.coords t 0).val = _; rw [ht]
  have c1 : qt t = (i 0).val / 256 := by show (grid0.coords t 1).val = _; rw [ht]
  exact ⟨t, flush0_8 t, mem_blk t i (by rw [c1]; omega) (by rw [c0]; omega)⟩

/-- The result array after the run. -/
theorem final (c : Dev nD) : (dats m 0 c).arrAt 8 cfg0.N = G m c :=
  (dats m 0 c).arrAt_eq_of_cover 8 (G m c) (fun t _ => flushed_eq m c t) cover

/-- The result of the whole program at an index. -/
def R (c : Dev nD) : FVec Ideal S1x16384x7168 .bf16 := fun u =>
  out m c ⟨(u 2).val / 256, by have h : (u 2).val < 7168 := (u 2).isLt; omega⟩ ⟨(u 1).val, (u 1).isLt⟩ ⟨(u 2).val % 256, by omega⟩

theorem reshape_G (c : Dev nD) : shapeCast S1x16384x7168 (G m c) shapeCasts_S16384x7168_S1x16384x7168 = R m c := by
  funext u
  have e : u = ix3 (0 : Fin 1) (u 1) (u 2) := by
    funext a
    fin_cases a
    · exact Subsingleton.elim (α := Fin 1) _ _
    · rfl
    · rfl
  rw [e]
  have h : shapeCast S1x16384x7168 (G m c) shapeCasts_S16384x7168_S1x16384x7168 (ix3 (0 : Fin 1) (u 1) (u 2)) = G m c (ix2 (u 1) (u 2)) := by
    pointwise
  exact h

/-- What the last host line leaves in the program's result. -/
theorem tail_v25 (c : Dev nD) : Pipeline.afterTail₀ cfgs (dats m) 0 (V0 m) [hostOps1] c main_v25 = R m c := by
  rw [← reshape_G, ← final m c]
  unfold Pipeline.afterTail₀
  simp only [List.flatten_cons, List.flatten_nil, List.append_nil]
  refine Eq.trans ?_ (congrArg (fun x : FVec Ideal S16384x7168 .bf16 => shapeCast S1x16384x7168 x shapeCasts_S16384x7168_S1x16384x7168) (Pipeline.withArrays_arr spec0 launch0.win.arr_inj c (V0 m c) (fun w => (dats m 0 c).arrAt w cfg0.N) 8))
  after_results
  rfl

/-- The whole program: its result from its arguments, and its arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v25) = R m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h.1.1 c).2 main_v25 (Pipeline.mem_restRefs_of main_v25 rfl (by decide))).trans (tail_v25 m c), h.2 c⟩)
    (θ_run_and (Val.run_main_quiescent m ρ) (Gen.frame_of m ρ (dats m) (Val.A_eq m) ((θ_run defs _ _).mono (fun _ h => h.1) (Val.run_main_quiescent m ρ))))

end Cert.KernelIdeal.Arr

end
-- ==== Proof.RefRow.lean ====
/- The reference at an index: the row formula of its arguments. -/
module

public import proofs.«01_k».proof.Proof.Gen.ReferenceIdeal.Run
public import proofs.«01_k».proof.Proof.Gen.ReferenceIdeal.Read
public import proofs.«01_k».proof.Proof.RowSpec
public import Idealize.ShloMosaic.Lib.Pointwise
public import Idealize.ShloMosaic.Lib.WordCmp

@[expose] public section

set_option maxRecDepth 16384

noncomputable section

namespace Cert.ReferenceIdeal.At

open Idealize.ShloMosaic Idealize.ShloMosaic.TcCoe Idealize.SL.Sem
open Cert.ReferenceIdeal Cert.ReferenceIdeal.Gen Cert.ReferenceIdeal.Read
open Cert.RowMath

variable (x1 x3 : FVec Ideal S1x16384x28x2 .f32) (x5 : FVec Ideal S28x256 .f32) (x6 x7 x8 x9 : FVec Ideal S128 .f32) (x10 : FVec Ideal S256 .f32)
  (r0 r1 : FVec Ideal S1x16384x28x2x128 .f32) (r2 : FVec Ideal S1x16384x28x256 .f32)

abbrev Q (x : FVec Ideal S1x16384x28x2x128 .f32) (i : Fin 16384) (h : Fin 28) (c : Fin 2) (d : Fin 128) : EReal := x (ix5 (0 : Fin 1) i h c d)
abbrev S (x : FVec Ideal S1x16384x28x2 .f32) (i : Fin 16384) (h : Fin 28) (c : Fin 2) : EReal := x (ix4 (0 : Fin 1) i h c)
abbrev V (x : FVec Ideal S1x16384x28x256 .f32) (i : Fin 16384) (h : Fin 28) (e : Fin 256) : EReal := x (ix4 (0 : Fin 1) i h e)
abbrev W (x : FVec Ideal S28x256 .f32) (h : Fin 28) (e : Fin 256) : EReal := x (ix2 h e)
abbrev G (x : FVec Ideal S256 .f32) (e : Fin 256) : EReal := x (ix1 e)
abbrev ss : EReal := Ideal.ofBits .f32 0x3DB504F3#32

/-! ## The scores -/

theorem v11_at (h : Fin 28) (c : Fin 2) (J : Fin 16384) : val_main_v11 (F := Ideal) x3 (ix4 (0 : Fin 1) h c J) = S x3 J h c * ss := by
  unfold val_main_v11 val_main_v9 val_main_v10 val_main_cst_2; pointwise
theorem v13_at (h : Fin 28) (c : Fin 2) (i J : Fin 16384) : val_main_v13 (F := Ideal) r0 r1 (ix5 (0 : Fin 1) h c i J) = ∑ d : Fin 128, Q r0 i h c d * Q r1 J h c d := by
  refine (val_main_v13_apply r0 r1 _).trans (Finset.sum_congr rfl fun d _ => congrArg₂ (· * ·) (congrArg r0 (funext fun a => ?_)) (congrArg r1 (funext fun a => ?_)))
  · fin_cases a <;> rfl
  · fin_cases a <;> rfl
theorem v16_at (h : Fin 28) (c : Fin 2) (i J : Fin 16384) : val_main_v16 (F := Ideal) x1 (ix5 (0 : Fin 1) h c i J) = S x1 i h c := by
  unfold val_main_v16 val_main_v15 val_main_v14; pointwise
theorem v19_at (h : Fin 28) (c : Fin 2) (i J : Fin 16384) : val_main_v19 (F := Ideal) x3 (ix5 (0 : Fin 1) h c i J) = S x3 J h c * ss := by
  rw [← v11_at x3 h c J]; unfold val_main_v19 val_main_v18; pointwise
theorem v20_at (h : Fin 28) (c : Fin 2) (i J : Fin 16384) :
    val_main_v20 (F := Ideal) x1 x3 r0 r1 (ix5 (0 : Fin 1) h c i J) = score (Q r0) (Q r1) (S x1) (S x3) ss h i c J := by
  rw [val_main_v20_apply, val_main_v17_apply, v13_at, v16_at, v19_at]; rfl
theorem v25_at (i J : Fin 16384) : val_main_v25 (F := Ideal) (ix2 i J) = IntOp.cmpi .sle (BitVec.ofNat 32 J.val) (BitVec.ofNat 32 i.val) := by
  unfold val_main_v25 val_main_v23 val_main_v24 val_main_v21 val_main_v22 val_main_v12; pointwise
theorem mask_at (h : Fin 28) (c : Fin 2) (i J : Fin 16384) :
    val_main_call0_v1 (F := Ideal) (ix5 (0 : Fin 1) h c i J) = IntOp.cmpi .sle (BitVec.ofNat 32 J.val) (BitVec.ofNat 32 i.val) := by
  rw [← v25_at]; unfold val_main_call0_v1; pointwise
theorem cmp_iff (i J : Fin 16384) : IntOp.cmpi .sle (BitVec.ofNat 32 J.val) (BitVec.ofNat 32 i.val) = 1#1 ↔ J.val ≤ i.val := by
  have := i.isLt; have := J.isLt
  word_cmp
theorem neg_inf : Ideal.ofBits .f32 0xFF800000#32 = ⊥ := by simp [Ideal.ofBits, Ideal.ieee]
theorem pos_inf : Ideal.ofBits .f32 0x7F800000#32 = ⊤ := by simp [Ideal.ofBits, Ideal.ieee]
theorem call0_at (u : S1x28x2x16384x16384.Idx) : val_main_call0_v2 (F := Ideal) u = (⊥ : EReal) := by
  rw [val_main_call0_v2_apply]; exact neg_inf
theorem v26_at (h : Fin 28) (c : Fin 2) (i J : Fin 16384) :
    val_main_v26 (F := Ideal) x1 x3 r0 r1 (ix5 (0 : Fin 1) h c i J) = xs (Q r0) (Q r1) (S x1) (S x3) ss h i c J.val := by
  rw [val_main_v26_apply, mask_at, v20_at, call0_at]
  unfold xs Scalar.select
  rw [toKey_val]
  exact if_congr (cmp_iff i J) rfl rfl

/-! ## The maximum and the guard -/

/-- A maximum over the keys at an index. -/
theorem fold_at (y : FVec Ideal S1x28x2x16384x16384 .f32) (b : FVec Ideal S_ .f32) (h : Fin 28) (c : Fin 2) (i : Fin 16384) :
    Host.reduce FloatOps.maximumf y b reducesTo_S1x28x2x16384x16384_S1x28x2x16384_d4 h_S_ (ix4 (0 : Fin 1) h c i)
      = Finset.univ.fold max (b (Shape.Idx.first h_S_)) fun J : Fin 16384 => y (ix5 (0 : Fin 1) h c i J) := by
  pointwise
theorem fold26 (h : Fin 28) (c : Fin 2) (i : Fin 16384) :
    (Finset.univ.fold max (Ideal.ofBits .f32 0xFF800000#32) fun J : Fin 16384 => val_main_v26 (F := Ideal) x1 x3 r0 r1 (ix5 (0 : Fin 1) h c i J))
      = mm (Q r0) (Q r1) (S x1) (S x3) ss h i c := by
  rw [neg_inf]
  unfold mm
  exact congrArg (Finset.fold max ⊥ · Finset.univ) (funext fun J => v26_at x1 x3 r0 r1 h c i J)
theorem v27_at (h : Fin 28) (c : Fin 2) (i : Fin 16384) :
    val_main_v27 (F := Ideal) x1 x3 r0 r1 (ix4 (0 : Fin 1) h c i) = mm (Q r0) (Q r1) (S x1) (S x3) ss h i c :=
  (fold_at (val_main_v26 (F := Ideal) x1 x3 r0 r1) (val_main_cst_4 (F := Ideal)) h c i).trans (fold26 x1 x3 r0 r1 h c i)
theorem v32_at (h : Fin 28) (c : Fin 2) (i : Fin 16384) :
    val_main_v32 (F := Ideal) x1 x3 r0 r1 (ix4 (0 : Fin 1) h c i) = mm (Q r0) (Q r1) (S x1) (S x3) ss h i c :=
  (fold_at (val_main_v26 (F := Ideal) x1 x3 r0 r1) (val_main_cst_6 (F := Ideal)) h c i).trans (fold26 x1 x3 r0 r1 h c i)
theorem v33_at (u : S1x28x2x16384.Idx) : val_main_v33 (F := Ideal) u = (⊥ : EReal) := by
  rw [val_main_v33_apply]; exact neg_inf
theorem v30_at (u : S1x28x2x16384x1.Idx) : val_main_v30 (F := Ideal) u = (⊤ : EReal) := by
  rw [val_main_v30_apply]; exact pos_inf
theorem v34_at (h : Fin 28) (c : Fin 2) (i : Fin 16384) :
    val_main_v34 (F := Ideal) x1 x3 r0 r1 (ix4 (0 : Fin 1) h c i) = mm (Q r0) (Q r1) (S x1) (S x3) ss h i c := by
  rw [val_main_v34_apply, v32_at, v33_at]
  exact max_eq_right bot_le
theorem v28_at (h : Fin 28) (c : Fin 2) (i : Fin 16384) :
    val_main_v28 (F := Ideal) x1 x3 r0 r1 (ix5 (0 : Fin 1) h c i (0 : Fin 1)) = mm (Q r0) (Q r1) (S x1) (S x3) ss h i c := by
  rw [val_main_v28_apply, ← v27_at]
  refine congrArg (val_main_v27 (F := Ideal) x1 x3 r0 r1) (funext fun a => ?_)
  fin_cases a <;> rfl
theorem lt_top_iff (x : EReal) : (FloatOps.cmpf (F := Ideal) (φ := .f32) .olt (FloatOps.hostAbsf (F := Ideal) (φ := .f32) x) (⊤ : EReal)) = 1#1 ↔ fin x := by
  show (Ideal.cmp .olt (max x (-x)) ⊤ = 1#1) ↔ _
  unfold fin Ideal.cmp
  by_cases hlt : max x (-x) < ⊤ <;> simp [hlt]
theorem v31_at (h : Fin 28) (c : Fin 2) (i : Fin 16384) :
    val_main_v31 (F := Ideal) x1 x3 r0 r1 (ix5 (0 : Fin 1) h c i (0 : Fin 1)) = 1#1 ↔ fin (mm (Q r0) (Q r1) (S x1) (S x3) ss h i c) := by
  rw [val_main_v31_apply, val_main_v29_apply, v28_at, v30_at]
  exact lt_top_iff _

/-! ## The softmax -/

theorem v36_at (h : Fin 28) (c : Fin 2) (i J : Fin 16384) :
    val_main_v36 (F := Ideal) x1 x3 r0 r1 (ix5 (0 : Fin 1) h c i J) = mm (Q r0) (Q r1) (S x1) (S x3) ss h i c := by
  rw [val_main_v36_apply, val_main_v35_apply, ← v34_at]
  refine congrArg (val_main_v34 (F := Ideal) x1 x3 r0 r1) (funext fun a => ?_)
  fin_cases a <;> rfl
theorem v38_at (h : Fin 28) (c : Fin 2) (i J : Fin 16384) :
    val_main_v38 (F := Ideal) x1 x3 r0 r1 (ix5 (0 : Fin 1) h c i J)
      = ee (xs (Q r0) (Q r1) (S x1) (S x3) ss h i c) (mm (Q r0) (Q r1) (S x1) (S x3) ss h i c) J.val := by
  rw [val_main_v38_apply, val_main_v37_apply, v26_at, v36_at]; rfl
theorem c8_at (u : S_.Idx) : val_main_cst_8 (F := Ideal) u = (0 : EReal) := Ideal.ofBits_zero_f32
theorem v39_at (h : Fin 28) (c : Fin 2) (i : Fin 16384) :
    val_main_v39 (F := Ideal) x1 x3 r0 r1 (ix4 (0 : Fin 1) h c i)
      = LL 16384 (xs (Q r0) (Q r1) (S x1) (S x3) ss h i c) (mm (Q r0) (Q r1) (S x1) (S x3) ss h i c) := by
  rw [val_main_v39_apply, c8_at, zero_add]
  unfold LL
  rw [← Fin.sum_univ_eq_sum_range]
  refine Finset.sum_congr rfl fun J _ => Eq.trans (congrArg (val_main_v38 (F := Ideal) x1 x3 r0 r1) (funext fun a => ?_)) (v38_at x1 x3 r0 r1 h c i J)
  fin_cases a <;> rfl
theorem v41_at (h : Fin 28) (c : Fin 2) (i J : Fin 16384) :
    val_main_v41 (F := Ideal) x1 x3 r0 r1 (ix5 (0 : Fin 1) h c i J)
      = LL 16384 (xs (Q r0) (Q r1) (S x1) (S x3) ss h i c) (mm (Q r0) (Q r1) (S x1) (S x3) ss h i c) := by
  rw [val_main_v41_apply, val_main_v40_apply, ← v39_at]
  refine congrArg (val_main_v39 (F := Ideal) x1 x3 r0 r1) (funext fun a => ?_)
  fin_cases a <;> rfl
theorem g1_at (h : Fin 28) (c : Fin 2) (i J : Fin 16384) :
    val_main_call1_v1 (F := Ideal) x1 x3 r0 r1 (ix5 (0 : Fin 1) h c i J) = val_main_v31 (F := Ideal) x1 x3 r0 r1 (ix5 (0 : Fin 1) h c i (0 : Fin 1)) := by
  rw [val_main_call1_v1_apply]
  refine congrArg (val_main_v31 (F := Ideal) x1 x3 r0 r1) (funext fun a => ?_)
  fin_cases a <;> rfl
theorem call1_at (u : S1x28x2x16384x16384.Idx) : val_main_call1_v2 (F := Ideal) u = (0 : EReal) := by
  rw [val_main_call1_v2_apply]; exact Ideal.ofBits_zero_f32
theorem v43_at (h : Fin 28) (c : Fin 2) (i J : Fin 16384) :
    val_main_v43 (F := Ideal) x1 x3 r0 r1 (ix5 (0 : Fin 1) h c i J)
      = pp 16384 (xs (Q r0) (Q r1) (S x1) (S x3) ss h i c) (mm (Q r0) (Q r1) (S x1) (S x3) ss h i c) J.val := by
  rw [val_main_v43_apply, val_main_v42_apply, g1_at, v38_at, v41_at, call1_at]
  unfold Scalar.select pp
  exact if_congr (v31_at x1 x3 r0 r1 h c i) rfl rfl

/-! ## The differential attention -/

/-- The reference's scalar. -/
def lamF (a6 a7 a8 a9 : FVec Ideal S128 .f32) : EReal := val_main_v8 (F := Ideal) a6 a7 a8 a9 (Shape.Idx.first h_S_)

/-- A query's row of attention weights. -/
abbrev A (h : Fin 28) (i : Fin 16384) (J : ℕ) : EReal :=
  aa 16384 (xs (Q r0) (Q r1) (S x1) (S x3) ss h i 0) (xs (Q r0) (Q r1) (S x1) (S x3) ss h i 1) (mm (Q r0) (Q r1) (S x1) (S x3) ss h i 0)
    (mm (Q r0) (Q r1) (S x1) (S x3) ss h i 1) (lamF x6 x7 x8 x9) J

theorem v50_at (u : S1x28x16384x16384.Idx) : val_main_v50 (F := Ideal) x6 x7 x8 x9 u = lamF x6 x7 x8 x9 := by
  rw [val_main_v50_apply]
  exact congrArg (val_main_v8 (F := Ideal) x6 x7 x8 x9) (funext fun a => a.elim0)
theorem v47_at (h : Fin 28) (i J : Fin 16384) :
    val_main_v47 (F := Ideal) x1 x3 r0 r1 (ix4 (0 : Fin 1) h i J) = val_main_v43 (F := Ideal) x1 x3 r0 r1 (ix5 (0 : Fin 1) h (0 : Fin 2) i J) := by
  unfold val_main_v47 val_main_v46
  generalize val_main_v43 (F := Ideal) x1 x3 r0 r1 = y
  pointwise
theorem v49_at (h : Fin 28) (i J : Fin 16384) :
    val_main_v49 (F := Ideal) x1 x3 r0 r1 (ix4 (0 : Fin 1) h i J) = val_main_v43 (F := Ideal) x1 x3 r0 r1 (ix5 (0 : Fin 1) h (1 : Fin 2) i J) := by
  unfold val_main_v49 val_main_v48
  generalize val_main_v43 (F := Ideal) x1 x3 r0 r1 = y
  pointwise
theorem g2_at (h : Fin 28) (i J : Fin 16384) :
    val_main_call2_v1 (F := Ideal) x1 x3 r0 r1 (ix4 (0 : Fin 1) h i J) = val_main_v31 (F := Ideal) x1 x3 r0 r1 (ix5 (0 : Fin 1) h (0 : Fin 2) i (0 : Fin 1)) := by
  unfold val_main_call2_v1 val_main_v45 val_main_v44
  generalize val_main_v31 (F := Ideal) x1 x3 r0 r1 = y
  pointwise
theorem trunc_id (hb : FTy.bits .bf16 < FTy.bits .f32) (x : EReal) : FloatOps.truncf (F := Ideal) (φ := .f32) .bf16 hb x = x := rfl
theorem call2_at (u : S1x28x16384x16384.Idx) : val_main_call2_v2 (F := Ideal) u = (0 : EReal) := by
  rw [val_main_call2_v2_apply]; exact Ideal.ofBits_zero_f32
theorem v54_at (h : Fin 28) (i J : Fin 16384) :
    val_main_v54 (F := Ideal) x1 x3 x6 x7 x8 x9 r0 r1 (ix4 (0 : Fin 1) h i J) = A x1 x3 x6 x7 x8 x9 r0 r1 h i J.val := by
  rw [val_main_v54_apply, trunc_id, val_main_v53_apply, val_main_v52_apply, val_main_v51_apply, g2_at, v47_at, v49_at, v50_at, v43_at, v43_at, call2_at]
  unfold A aa Scalar.select
  exact if_congr (v31_at x1 x3 r0 r1 h 0 i) rfl rfl
theorem v55_at (h : Fin 28) (e : Fin 256) (i : Fin 16384) :
    val_main_v55 (F := Ideal) x1 x3 x6 x7 x8 x9 r0 r1 r2 (ix4 (0 : Fin 1) h e i)
      = ∑ J ∈ Finset.range 16384, V r2 (toKey J) h e * A x1 x3 x6 x7 x8 x9 r0 r1 h i J := by
  refine (val_main_v55_apply x1 x3 x6 x7 x8 x9 r0 r1 r2 _).trans ?_
  refine Eq.trans ?_ (Fin.sum_univ_eq_sum_range (fun J => V r2 (toKey J) h e * A x1 x3 x6 x7 x8 x9 r0 r1 h i J) 16384)
  refine Finset.sum_congr rfl fun J _ => congrArg₂ (· * ·) ?_ (Eq.trans (congrArg (val_main_v54 (F := Ideal) x1 x3 x6 x7 x8 x9 r0 r1) (funext fun a => ?_)) (v54_at x1 x3 x6 x7 x8 x9 r0 r1 h i J))
  · rw [toKey_val]
    refine congrArg r2 (funext fun a => ?_)
    fin_cases a <;> rfl
  · fin_cases a <;> rfl

/-! ## The normalization -/

/-- A row before normalization. -/
abbrev O (h : Fin 28) (i : Fin 16384) (e : Fin 256) : EReal :=
  oo (Q r0) (Q r1) (S x1) (S x3) (V r2) (W x5) (lamF x6 x7 x8 x9) ss h i e

theorem v56_at (h : Fin 28) (i : Fin 16384) (e : Fin 256) :
    val_main_v56 (F := Ideal) x1 x3 x6 x7 x8 x9 r0 r1 r2 (ix4 (0 : Fin 1) i h e) = val_main_v55 (F := Ideal) x1 x3 x6 x7 x8 x9 r0 r1 r2 (ix4 (0 : Fin 1) h e i) := by
  rw [val_main_v56_apply]
  refine congrArg (val_main_v55 (F := Ideal) x1 x3 x6 x7 x8 x9 r0 r1 r2) (funext fun a => ?_)
  fin_cases a <;> rfl
theorem v58_at (h : Fin 28) (i : Fin 16384) (e : Fin 256) : val_main_v58 (F := Ideal) x5 (ix4 (0 : Fin 1) i h e) = W x5 h e := by
  unfold val_main_v58 val_main_v57; pointwise
theorem v59_at (h : Fin 28) (i : Fin 16384) (e : Fin 256) :
    val_main_v59 (F := Ideal) x1 x3 x5 x6 x7 x8 x9 r0 r1 r2 (ix4 (0 : Fin 1) i h e) = O x1 x3 x5 x6 x7 x8 x9 r0 r1 r2 h i e := by
  rw [val_main_v59_apply, v56_at, v58_at, v55_at]; rfl
theorem c11_at (u : S_.Idx) : val_main_cst_11 (F := Ideal) u = (0 : EReal) := Ideal.ofBits_zero_f32
theorem v61_at (h : Fin 28) (i : Fin 16384) :
    val_main_v61 (F := Ideal) x1 x3 x5 x6 x7 x8 x9 r0 r1 r2 (ix3 (0 : Fin 1) i h)
      = ∑ f : Fin 256, O x1 x3 x5 x6 x7 x8 x9 r0 r1 r2 h i f * O x1 x3 x5 x6 x7 x8 x9 r0 r1 r2 h i f := by
  rw [val_main_v61_apply, c11_at, zero_add]
  refine Finset.sum_congr rfl fun f _ => Eq.trans (congrArg (val_main_v60 (F := Ideal) x1 x3 x5 x6 x7 x8 x9 r0 r1 r2) (funext fun a => ?_ : _ = ix4 (0 : Fin 1) i h f)) ?_
  · fin_cases a <;> rfl
  · rw [val_main_v60_apply, v59_at]; rfl
theorem v63_at (u : S1x16384x28x1.Idx) : val_main_v63 (F := Ideal) u = Ideal.ofBits .f32 0x43800000#32 := by
  rw [val_main_v63_apply]; rfl
theorem v65_at (u : S1x16384x28x1.Idx) : val_main_v65 (F := Ideal) u = Ideal.ofBits .f32 0x3727C5AC#32 := by
  rw [val_main_v65_apply]; rfl
theorem v73_at (u : S1x16384x28x256.Idx) : val_main_v73 (F := Ideal) u = Ideal.ofBits .f32 0x3EAAF212#32 := by
  rw [val_main_v73_apply]; rfl
theorem v62_at (h : Fin 28) (i : Fin 16384) :
    val_main_v62 (F := Ideal) x1 x3 x5 x6 x7 x8 x9 r0 r1 r2 (ix4 (0 : Fin 1) i h (0 : Fin 1)) = val_main_v61 (F := Ideal) x1 x3 x5 x6 x7 x8 x9 r0 r1 r2 (ix3 (0 : Fin 1) i h) := by
  rw [val_main_v62_apply]
  refine congrArg (val_main_v61 (F := Ideal) x1 x3 x5 x6 x7 x8 x9 r0 r1 r2) (funext fun a => ?_)
  fin_cases a <;> rfl
theorem v68_at (h : Fin 28) (i : Fin 16384) (e : Fin 256) :
    val_main_v68 (F := Ideal) x1 x3 x5 x6 x7 x8 x9 r0 r1 r2 (ix4 (0 : Fin 1) i h e)
      = Ideal.rsqrt (Ideal.div (∑ f : Fin 256, O x1 x3 x5 x6 x7 x8 x9 r0 r1 r2 h i f * O x1 x3 x5 x6 x7 x8 x9 r0 r1 r2 h i f) (Ideal.ofBits .f32 0x43800000#32)
          + Ideal.ofBits .f32 0x3727C5AC#32) := by
  rw [val_main_v68_apply]
  refine Eq.trans (congrArg (val_main_v67 (F := Ideal) x1 x3 x5 x6 x7 x8 x9 r0 r1 r2) (funext fun a => ?_ : _ = ix4 (0 : Fin 1) i h (0 : Fin 1))) ?_
  · fin_cases a <;> rfl
  · rw [val_main_v67_apply, val_main_v66_apply, val_main_v64_apply, v62_at, v61_at, v63_at, v65_at]; rfl
theorem v71_at (h : Fin 28) (i : Fin 16384) (e : Fin 256) : val_main_v71 (F := Ideal) x10 (ix4 (0 : Fin 1) i h e) = G x10 e := by
  unfold val_main_v71 val_main_v70; pointwise
theorem v74_at (h : Fin 28) (i : Fin 16384) (e : Fin 256) :
    val_main_v74 (F := Ideal) x1 x3 x5 x6 x7 x8 x9 x10 r0 r1 r2 (ix4 (0 : Fin 1) i h e)
      = yy (Q r0) (Q r1) (S x1) (S x3) (V r2) (W x5) (G x10) (lamF x6 x7 x8 x9) ss h i e := by
  rw [val_main_v74_apply, val_main_v72_apply, val_main_v69_apply, v59_at, v68_at, v71_at, v73_at]; rfl

/-- THE REFERENCE AT AN INDEX. -/
theorem v76_at (u : S1x16384x7168.Idx) :
    val_main_v76 (F := Ideal) x1 x3 x5 x6 x7 x8 x9 x10 r0 r1 r2 u
      = yy (Q r0) (Q r1) (S x1) (S x3) (V r2) (W x5) (G x10) (lamF x6 x7 x8 x9) ss
          ⟨(u 2).val / 256, by have h : (u 2).val < 7168 := (u 2).isLt; omega⟩ ⟨(u 1).val, (u 1).isLt⟩ ⟨(u 2).val % 256, by omega⟩ := by
  have hu0 : (u 0).val < 1 := (u 0).isLt
  have hu1 : (u 1).val < 16384 := (u 1).isLt
  have hu2 : (u 2).val < 7168 := (u 2).isLt
  refine Eq.trans ?_ (v74_at x1 x3 x5 x6 x7 x8 x9 x10 r0 r1 r2 ⟨(u 2).val / 256, by omega⟩ ⟨(u 1).val, (u 1).isLt⟩ ⟨(u 2).val % 256, by omega⟩)
  rw [val_main_v76_apply, trunc_id, val_main_v75_apply]
  refine congrArg (val_main_v74 (F := Ideal) x1 x3 x5 x6 x7 x8 x9 x10 r0 r1 r2) (funext fun a => Fin.ext ?_)
  fin_cases a
  · rfl
  · show (((u 0).val * 16384 + (u 1).val) * 7168 + (u 2).val) / 7168 % 16384 = (u 1).val; omega
  · show (((u 0).val * 16384 + (u 1).val) * 7168 + (u 2).val) / 256 % 28 = (u 2).val / 256; omega
  · show (((u 0).val * 16384 + (u 1).val) * 7168 + (u 2).val) % 256 = (u 2).val % 256; omega

end Cert.ReferenceIdeal.At

end
-- ==== Proof.RefValue.lean ====
/- The reference's upcast arrays are its arguments, and its run at the row formula. -/
module

public import proofs.«01_k».proof.Proof.RefRow

@[expose] public section

set_option maxRecDepth 16384

noncomputable section

namespace Cert.ReferenceIdeal.At

open Idealize.ShloMosaic Idealize.ShloMosaic.TcCoe Idealize.SL.Sem
open Cert.ReferenceIdeal Cert.ReferenceIdeal.Gen

variable (m : (ℓ : Loc nD τ sig) → Buf (Elt Ideal) ℓ)

theorem hz5 : (![0, 0, 0, 0, 0] : Fin 5 → Nat) = fun _ => 0 := funext fun a => by fin_cases a <;> rfl
theorem hz4 : (![0, 0, 0, 0] : Fin 4 → Nat) = fun _ => 0 := funext fun a => by fin_cases a <;> rfl

/-- What the upcast leaves in its result 0: argument 0. -/
def U0 (c : Dev nD) : FVec Ideal S1x16384x28x2x128 .f32 := m ((c : Thread nD τ).loc main_arg0)

theorem flushed0 (c : Dev nD) (t : Fin cfg0.N) : (dats m 0 c).flushed 3 t = (win0_3.blk t).view.read (Elt Ideal) (U0 m c) := by
  show (cfg0.win 3).cut (grid0.coords t) ((dats m 0 c).after 3 t) = _
  rw [after0_3]
  unfold out0_3
  rw [View.canon_unit_zero hz5, View.ld_unit_zero hz5]
  rfl

theorem cover0 (i : S1x16384x28x2x128.Idx) : ∃ t : Fin cfg0.N, (cfg0.win 3).flush t = true ∧ i ∈ ((cfg0.win 3).blk t).view.set := by
  refine ⟨t0_0, flush0_3 _, ?_⟩
  show i ∈ ((View.whole main_v0_0).slice (win0_3.rect t0_0)).set
  rw [View.set_slice_whole, Rect.mem_set_unit]
  intro a
  match a with
  | ⟨0, _⟩ =>
    show 0 * 1 ≤ (i 0).val ∧ (i 0).val < 0 * 1 + 1
    have h : (i 0).val < 1 := (i 0).isLt
    omega
  | ⟨1, _⟩ =>
    show 0 * 16384 ≤ (i 1).val ∧ (i 1).val < 0 * 16384 + 16384
    have h : (i 1).val < 16384 := (i 1).isLt
    omega
  | ⟨2, _⟩ =>
    show 0 * 28 ≤ (i 2).val ∧ (i 2).val < 0 * 28 + 28
    have h : (i 2).val < 28 := (i 2).isLt
    omega
  | ⟨3, _⟩ =>
    show 0 * 2 ≤ (i 3).val ∧ (i 3).val < 0 * 2 + 2
    have h : (i 3).val < 2 := (i 3).isLt
    omega
  | ⟨4, _⟩ =>
    show 0 * 128 ≤ (i 4).val ∧ (i 4).val < 0 * 128 + 128
    have h : (i 4).val < 128 := (i 4).isLt
    omega

theorem reg0 (c : Dev nD) : Value.reg_main_v0_0 m c = U0 m c :=
  (dats m 0 c).arrAt_eq_of_cover 3 (U0 m c) (fun t _ => flushed0 m c t) cover0

/-- What the upcast leaves in its result 1: argument 2. -/
def U1 (c : Dev nD) : FVec Ideal S1x16384x28x2x128 .f32 := m ((c : Thread nD τ).loc main_arg2)

theorem flushed1 (c : Dev nD) (t : Fin cfg0.N) : (dats m 0 c).flushed 4 t = (win0_4.blk t).view.read (Elt Ideal) (U1 m c) := by
  show (cfg0.win 4).cut (grid0.coords t) ((dats m 0 c).after 4 t) = _
  rw [after0_4]
  unfold out0_4
  rw [View.canon_unit_zero hz5, View.ld_unit_zero hz5]
  rfl

theorem cover1 (i : S1x16384x28x2x128.Idx) : ∃ t : Fin cfg0.N, (cfg0.win 4).flush t = true ∧ i ∈ ((cfg0.win 4).blk t).view.set := by
  refine ⟨t0_0, flush0_4 _, ?_⟩
  show i ∈ ((View.whole main_v0_1).slice (win0_4.rect t0_0)).set
  rw [View.set_slice_whole, Rect.mem_set_unit]
  intro a
  match a with
  | ⟨0, _⟩ =>
    show 0 * 1 ≤ (i 0).val ∧ (i 0).val < 0 * 1 + 1
    have h : (i 0).val < 1 := (i 0).isLt
    omega
  | ⟨1, _⟩ =>
    show 0 * 16384 ≤ (i 1).val ∧ (i 1).val < 0 * 16384 + 16384
    have h : (i 1).val < 16384 := (i 1).isLt
    omega
  | ⟨2, _⟩ =>
    show 0 * 28 ≤ (i 2).val ∧ (i 2).val < 0 * 28 + 28
    have h : (i 2).val < 28 := (i 2).isLt
    omega
  | ⟨3, _⟩ =>
    show 0 * 2 ≤ (i 3).val ∧ (i 3).val < 0 * 2 + 2
    have h : (i 3).val < 2 := (i 3).isLt
    omega
  | ⟨4, _⟩ =>
    show 0 * 128 ≤ (i 4).val ∧ (i 4).val < 0 * 128 + 128
    have h : (i 4).val < 128 := (i 4).isLt
    omega

theorem reg1 (c : Dev nD) : Value.reg_main_v0_1 m c = U1 m c :=
  (dats m 0 c).arrAt_eq_of_cover 4 (U1 m c) (fun t _ => flushed1 m c t) cover1

/-- What the upcast leaves in its result 2: argument 4. -/
def U2 (c : Dev nD) : FVec Ideal S1x16384x28x256 .bf16 := m ((c : Thread nD τ).loc main_arg4)

theorem flushed2 (c : Dev nD) (t : Fin cfg0.N) : (dats m 0 c).flushed 5 t = (win0_5.blk t).view.read (Elt Ideal) (U2 m c) := by
  show (cfg0.win 5).cut (grid0.coords t) ((dats m 0 c).after 5 t) = _
  rw [after0_5]
  unfold out0_5
  rw [View.canon_unit_zero hz4, View.ld_unit_zero hz4]
  rfl

theorem cover2 (i : S1x16384x28x256.Idx) : ∃ t : Fin cfg0.N, (cfg0.win 5).flush t = true ∧ i ∈ ((cfg0.win 5).blk t).view.set := by
  refine ⟨t0_0, flush0_5 _, ?_⟩
  show i ∈ ((View.whole main_v0_2).slice (win0_5.rect t0_0)).set
  rw [View.set_slice_whole, Rect.mem_set_unit]
  intro a
  match a with
  | ⟨0, _⟩ =>
    show 0 * 1 ≤ (i 0).val ∧ (i 0).val < 0 * 1 + 1
    have h : (i 0).val < 1 := (i 0).isLt
    omega
  | ⟨1, _⟩ =>
    show 0 * 16384 ≤ (i 1).val ∧ (i 1).val < 0 * 16384 + 16384
    have h : (i 1).val < 16384 := (i 1).isLt
    omega
  | ⟨2, _⟩ =>
    show 0 * 28 ≤ (i 2).val ∧ (i 2).val < 0 * 28 + 28
    have h : (i 2).val < 28 := (i 2).isLt
    omega
  | ⟨3, _⟩ =>
    show 0 * 256 ≤ (i 3).val ∧ (i 3).val < 0 * 256 + 256
    have h : (i 3).val < 256 := (i 3).isLt
    omega

theorem reg2 (c : Dev nD) : Value.reg_main_v0_2 m c = U2 m c :=
  (dats m 0 c).arrAt_eq_of_cover 5 (U2 m c) (fun t _ => flushed2 m c t) cover2

/-- The reference's result at an index, from its arguments. -/
def R (c : Dev nD) : FVec Ideal S1x16384x7168 .bf16 := fun u =>
  RowMath.yy (Q (U0 m c)) (Q (U1 m c)) (S (m ((c : Thread nD τ).loc main_arg1))) (S (m ((c : Thread nD τ).loc main_arg3))) (V (U2 m c)) (W (m ((c : Thread nD τ).loc main_arg5))) (G (m ((c : Thread nD τ).loc main_arg10)))
    (lamF (m ((c : Thread nD τ).loc main_arg6)) (m ((c : Thread nD τ).loc main_arg7)) (m ((c : Thread nD τ).loc main_arg8)) (m ((c : Thread nD τ).loc main_arg9))) ss
    ⟨(u 2).val / 256, by have h : (u 2).val < 7168 := (u 2).isLt; omega⟩ ⟨(u 1).val, (u 1).isLt⟩ ⟨(u 2).val % 256, by omega⟩

/-- The whole reference: its result from its arguments, and its arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v76) = R m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1.trans (Read.val_main_v76_eq (Value.exitV m c))).trans (by
      rw [Value.exit_main_v0_0, Value.exit_main_v0_1, Value.exit_main_v0_2, reg0, reg1, reg2, Value.exit_main_arg1, Value.exit_main_arg3,
        Value.exit_main_arg5, Value.exit_main_arg6, Value.exit_main_arg7, Value.exit_main_arg8, Value.exit_main_arg9, Value.exit_main_arg10]
      exact funext fun u => v76_at _ _ _ _ _ _ _ _ _ _ _ u), (h c).2⟩)
    (Value.run m ρ)

end Cert.ReferenceIdeal.At

end
-- ==== Proof.Agree.lean ====
/- From arguments that agree, the kernel's array and the reference's are the same. -/
module

public import proofs.«01_k».proof.Proof.KernelArray
public import proofs.«01_k».proof.Proof.RefValue

@[expose] public section

set_option maxRecDepth 16384

noncomputable section

namespace Cert.Agree

open Idealize.ShloMosaic Idealize.ShloMosaic.TcCoe Idealize.SL.Sem
open Cert

/-- Both hosts compute the same scalar. -/
theorem lam_eq (a6 a7 a8 a9 : FVec Ideal KernelIdeal.S128 .f32) : ReferenceIdeal.At.lamF a6 a7 a8 a9 = KernelIdeal.Arr.lamF a6 a7 a8 a9 := rfl

theorem agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hA : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)
      ∧ m' ((c.tc : Thread ReferenceIdeal.nD ReferenceIdeal.τ).loc ReferenceIdeal.main_arg9) = m ((c.tc : Thread KernelIdeal.nD KernelIdeal.τ).loc KernelIdeal.main_arg9)
      ∧ m' ((c.tc : Thread ReferenceIdeal.nD ReferenceIdeal.τ).loc ReferenceIdeal.main_arg10) = m ((c.tc : Thread KernelIdeal.nD KernelIdeal.τ).loc KernelIdeal.main_arg10)) :
    ReferenceIdeal.At.R m' c = KernelIdeal.Arr.R m c := by
  obtain ⟨h0, h1, h2, h3, h4, h5, h6, h7, h8, h9, h10⟩ := hA
  funext u
  unfold ReferenceIdeal.At.R ReferenceIdeal.At.U0 ReferenceIdeal.At.U1 ReferenceIdeal.At.U2 KernelIdeal.Arr.R KernelIdeal.Arr.out
  rw [h0, h1, h2, h3, h4, h5, h6, h7, h8, h9, h10]
  rw [lam_eq]
  rfl

end Cert.Agree

end
-- ==== Proof.Plain.lean ====
/- For finite arguments the reference's guard on rows without a finite maximum is never taken: the row is that of the plain softmaxes. -/
module

public import proofs.«01_k».proof.Proof.RowSpec

@[expose] public section

noncomputable section

namespace Cert.RowMath

open Idealize.ShloMosaic

/-- The scores' scale. -/
abbrev scl : EReal := Ideal.ofBits .f32 0x3DB504F3#32

section
variable (Q K : Fin 16384 → Fin 28 → Fin 2 → Fin 128 → EReal) (QS KS : Fin 16384 → Fin 28 → Fin 2 → EReal)
  (V : Fin 16384 → Fin 28 → Fin 256 → EReal) (VS : Fin 28 → Fin 256 → EReal) (lam : EReal)
  (h : Fin 28) (i : Fin 16384)
  (hQ : ∀ i h c d, ∃ r : ℝ, Q i h c d = (r : EReal)) (hK : ∀ i h c d, ∃ r : ℝ, K i h c d = (r : EReal))
  (hQS : ∀ i h c, ∃ r : ℝ, QS i h c = (r : EReal)) (hKS : ∀ i h c, ∃ r : ℝ, KS i h c = (r : EReal))

/-- The scores' scale is finite. -/
theorem scale_real : ∃ r : ℝ, scl = (r : EReal) := by
  show ∃ r : ℝ, Ideal.ieee 8 23 0x3DB504F3#32 = (r : EReal)
  unfold Ideal.ieee
  dsimp only
  rw [if_neg (by decide), if_neg (by decide)]
  exact ⟨_, rfl⟩

/-- A sum of reals is real. -/
theorem sum_real {n : ℕ} (f : Fin n → EReal) (hf : ∀ d, ∃ r : ℝ, f d = (r : EReal)) : ∃ r : ℝ, ∑ d, f d = (r : EReal) := by
  choose g hg using hf
  refine Finset.sum_induction f (fun x => ∃ r : ℝ, x = (r : EReal)) ?_ ⟨0, rfl⟩ fun d _ => ⟨g d, hg d⟩
  rintro _ _ ⟨a, rfl⟩ ⟨b, rfl⟩
  exact ⟨a + b, (EReal.coe_add a b).symm⟩

/-- A product of reals is real. -/
theorem mul_real {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

include hQ hK hQS hKS

/-- Scores of finite arguments are finite. -/
theorem score_real (c : Fin 2) (J : Fin 16384) : ∃ r : ℝ, score Q K QS KS scl h i c J = (r : EReal) :=
  mul_real (mul_real (sum_real _ fun d => mul_real (hQ i h c d) (hK J h c d)) (hQS i h c)) (mul_real (hKS J h c) scale_real)

/-- A row of finite arguments has a finite maximum: it sees its own key, and no score is infinite. -/
theorem mm_fin (c : Fin 2) : fin (mm Q K QS KS scl h i c) := by
  by_contra hn
  rcases not_fin hn with ht | hb
  · have hlt : mm Q K QS KS scl h i c < ⊤ := by
      unfold mm
      rw [Finset.fold_max_lt]
      refine ⟨bot_lt_top, fun J _ => ?_⟩
      unfold xs
      split
      · obtain ⟨r, hr⟩ := score_real Q K QS KS h i hQ hK hQS hKS c (toKey J.val)
        rw [hr]
        exact EReal.coe_lt_top r
      · exact bot_lt_top
    exact hlt.ne ht
  · have hle := (mm_le Q K QS KS scl h i c _).1 le_rfl i.val i.isLt
    rw [hb, le_bot_iff] at hle
    unfold xs at hle
    rw [if_pos le_rfl] at hle
    obtain ⟨r, hr⟩ := score_real Q K QS KS h i hQ hK hQS hKS c (toKey i.val)
    rw [hr] at hle
    exact EReal.coe_ne_bot r hle

/-- For finite arguments the row before normalization is the values weighted by the difference of the two softmaxes, with no guard. -/
theorem oo_plain (e : Fin 256) :
    oo Q K QS KS V VS lam scl h i e
      = (∑ J ∈ Finset.range 16384, V (toKey J) h e
          * (Ideal.div (Ideal.exp (xs Q K QS KS scl h i 0 J - mm Q K QS KS scl h i 0)) (∑ L ∈ Finset.range 16384, Ideal.exp (xs Q K QS KS scl h i 0 L - mm Q K QS KS scl h i 0))
            - lam * Ideal.div (Ideal.exp (xs Q K QS KS scl h i 1 J - mm Q K QS KS scl h i 1)) (∑ L ∈ Finset.range 16384, Ideal.exp (xs Q K QS KS scl h i 1 L - mm Q K QS KS scl h i 1))))
        * VS h e := by
  have h0 := mm_fin Q K QS KS h i hQ hK hQS hKS 0
  have h1 := mm_fin Q K QS KS h i hQ hK hQS hKS 1
  unfold oo aa pp
  simp only [if_pos h0, if_pos h1]
  rfl

end

end Cert.RowMath

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.IdealFrame
public import proofs.«01_k».proof.Proof.RefRead
public import proofs.«01_k».proof.Proof.KernelArray
public import proofs.«01_k».proof.Proof.RefRow
public import proofs.«01_k».proof.Proof.RefValue
public import proofs.«01_k».proof.Proof.Agree
public import proofs.«01_k».proof.Proof.Plain
public import Idealize.ShloMosaic.Adequacy
public import Idealize.ShloMosaic.Init

@[expose] public section

noncomputable section

namespace Cert.Proof

open Idealize.ShloMosaic Idealize.SL.Sem Cert.Kernel

/-- The logarithm's reciprocal is what the constant's name stands for. -/
theorem preserves : Cert.preserves_Kernel_KernelIdeal :=
  IdealRules.named_const.statement Cert.KernelIdeal.κ "log2_e" .f32 0x3FB8AA3B#32 (((Real.log 2)⁻¹ : ℝ) : EReal) rfl

/-- Over the extended reals the kernel and the reference end with the same array. -/
theorem algebraic : Cert.algebraic_KernelIdeal_ReferenceIdeal := fun m g m' g' _ hA =>
  ⟨fun c => Cert.KernelIdeal.Arr.R m c, Cert.KernelIdeal.Arr.run m g,
    (θ_run Cert.ReferenceIdeal.defs _ _).mono (fun r h c => ⟨(h c).1.trans (Cert.Agree.agree m m' c (hA c)), (h c).2⟩) (Cert.ReferenceIdeal.At.run m' g')⟩

theorem claim : Cert.Claim := ⟨Cert.Kernel.Gen.facts, Cert.KernelIdeal.Gen.facts, Cert.ReferenceIdeal.Gen.facts,
  fun m ρ _ => Cert.Kernel.Run.frame (F := Bits) m ρ, fun m ρ _ => Cert.KernelIdeal.Run.frame (F := Ideal) m ρ,
  fun m ρ _ => Cert.ReferenceIdeal.Gen.frame (F := Ideal) m ρ, preserves, algebraic⟩

end Cert.Proof

end
